-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x512 : Shape := ⟨2, ![2, 512]⟩
abbrev S4x2x512 : Shape := ⟨3, ![4, 2, 512]⟩
abbrev S4 : Shape := ⟨1, ![4]⟩
abbrev S_ : Shape := ⟨0, ![]⟩
abbrev S8x512 : Shape := ⟨2, ![8, 512]⟩
abbrev S512 : Shape := ⟨1, ![512]⟩
abbrev S1x512 : Shape := ⟨2, ![1, 512]⟩
abbrev S1x1x512 : Shape := ⟨3, ![1, 1, 512]⟩
abbrev S1 : Shape := ⟨1, ![1]⟩
abbrev S1x2x512 : Shape := ⟨3, ![1, 2, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S2x512, .f32⟩
  | .local _ .vmem, ⟨0, _⟩ => ⟨S1024x512, .f32⟩
  | .local _ .vmem, ⟨1, _⟩ => ⟨S2x512, .f32⟩
  | .local _ .vmem, ⟨2, _⟩ => ⟨S4x2x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19 : BitVec 32 := 1#32
  let v37 : BitVec 32 := Scalar.muli v13 c1_i32_19
  let v38 : BitVec 32 := Scalar.addi c0_i32_20 v37
  v38.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_22 : BitVec 32 := 1#32
  let v39 : BitVec 32 := Scalar.muli v24 c1_i32_22
  let v40 : BitVec 32 := Scalar.addi c0_i32_23 v39
  v40.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_25 : BitVec 32 := 1#32
  let v41 : BitVec 32 := Scalar.muli v35 c1_i32_25
  let v42 : BitVec 32 := Scalar.addi c0_i32_26 v41
  v42.toNat
def k0_dev4 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_172 : BitVec 32 := 1#32
  let v829 : BitVec 32 := Scalar.muli v24 c1_i32_172
  let v830 : BitVec 32 := Scalar.addi c0_i32_173 v829
  v830.toNat
def k0_dev5 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_182 : BitVec 32 := 1#32
  let v839 : BitVec 32 := Scalar.muli v13 c1_i32_182
  let v840 : BitVec 32 := Scalar.addi c0_i32_183 v839
  v840.toNat
def k0_dev6 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_192 : BitVec 32 := 1#32
  let v849 : BitVec 32 := Scalar.muli v35 c1_i32_192
  let v850 : BitVec 32 := Scalar.addi c0_i32_193 v849
  v850.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Values.lean ====
/-
# What one device computes, over any float values

The kernel walks the 1024 rows of its block in 128 groups of eight rows, keeping for each of the eight row positions the largest
value met and the group it was met in; it then takes the largest of the eight and the least row that attains it, and combines
that pair with the pairs the three other devices send. This file states those values as plain functions of the block; that the
program computes them is proved in Loads.lean and Body.lean, that they are the column maximum and its first row in Local.lean.
-/
module

public import proofs.«01_k».proof.Proof.Gen.KernelIdeal
public import Idealize.ShloMosaic.Lib.ValueIdxCore

@[expose] public section

noncomputable section

namespace Cert.Argmax

open Cert.KernelIdeal Cert.KernelIdeal.Gen
open Idealize.ShloMosaic Idealize.ShloMosaic.ValueIdx

variable {F : FTy → Type} [FloatOps F]

/-- The eight rows `8 n … 8 n + 7` of a block of 1024 rows. -/
def rows8 (x : Vec F S1024x512 .f32) (n : ℕ) : Vec F S8x512 .f32 := fun j =>
  x (ix2 ⟨(8 * n + (j 0).val) % 1024, Nat.mod_lt _ (by decide)⟩ ⟨(j 1).val, (j 1).isLt⟩)

/-- The group's values as the program names them. -/
def grp (x : Vec F S1024x512 .f32) (n : ℕ) : FVec F S8x512 .f32 := shapeCast S8x512 (rows8 x n) shapeCasts_S8x512_S8x512

/-- The state of the walk: the running maximum of each of the eight row positions, and the group it was first met in. -/
abbrev Walk (F : FTy → Type) : Type := FVec F S8x512 .f32 × IVec S8x512 32

/-- Group `n + 1` taken into the state. -/
def walkStep (x : Vec F S1024x512 .f32) (n : ℕ) (st : Walk F) : Walk F :=
  (select (cmpf .ogt (grp x (n + 1)) st.1) (grp x (n + 1)) st.1,
    select (cmpf .ogt (grp x (n + 1)) st.1) (broadcast S8x512 (BitVec.ofNat 32 (n + 1))) st.2)

/-- Groups `n + 1 … n + k` taken into the state. -/
def walkFrom (x : Vec F S1024x512 .f32) (n : ℕ) (st : Walk F) : ℕ → Walk F
  | 0 => st
  | k + 1 => walkStep x (n + k) (walkFrom x n st k)

/-- The state after groups `0 … n`. -/
def scan (x : Vec F S1024x512 .f32) (n : ℕ) : Walk F := walkFrom x 0 (grp x 0, broadcast S8x512 0#32) n

/-- The walk goes on from where it stood. -/
theorem scan_from (x : Vec F S1024x512 .f32) (n k : ℕ) : scan x (n + k) = walkFrom x n (scan x n) k := by
  induction k with
  | zero => rfl
  | succ k ih =>
    show walkStep x (0 + (n + k)) (scan x (n + k)) = walkStep x (n + k) (walkFrom x n (scan x n) k)
    rw [ih, Nat.zero_add]

/-- Where group `n + 1` exceeds the running maxima of a state. -/
def exceeds (x : Vec F S1024x512 .f32) (n : ℕ) (st : Walk F) : IVec S8x512 1 := cmpf .ogt (grp x (n + 1)) st.1

/-- The column maximum of a block. -/
def colMax (x : Vec F S1024x512 .f32) : FVec F S512 .f32 :=
  multiReduction .maximumf [0] S512 (scan x 127).1 0xFF800000#32 reduces_S8x512_S512 (.inl rfl) rfl

/-- The row number of each of the eight row positions' maximum where it equals the column maximum, 4096 elsewhere. -/
def colRows (x : Vec F S1024x512 .f32) : IVec S8x512 32 :=
  select (cmpf .oeq (scan x 127).1 (broadcastTo S8x512 (shapeCast S1x512 (colMax x) shapeCasts_S512_S1x512) broadcasts_S1x512_S8x512))
    (addi (muli (scan x 127).2 (broadcast S8x512 8#32)) (iota .tc S8x512 32 [0] iota_S8x512_d0_w32)) (broadcast S8x512 4096#32)

/-- The global row number, as a float, of the block's column maximum, `w` being the device's number. -/
def colIdx (w : BitVec 32) (x : Vec F S1024x512 .f32) : FVec F S512 .f32 :=
  sitofp .f32 (addi (multiReductionI .minsi [0] S512 (colRows x) 2147483647#32 reduces_S8x512_S512 rfl) (broadcast S512 (Scalar.muli w 1024#32)))

/-- The device's number as the program computes it from its mesh position. -/
def devWord (c : Dev nD) : BitVec 32 := Scalar.remsi (Scalar.divsi (Dev.word c) 1#32) 4#32

/-- Where the pair `(v, i)` comes before `(b, k)`: a larger value, or the same value at a smaller index. -/
def wins (v i b k : FVec F S512 .f32) : IVec S512 1 := ori (cmpf .ogt v b) (andi (cmpf .oeq v b) (cmpf .olt i k))

/-- The better of two pairs (value, index), the first being the challenger. -/
def better (p q : FVec F S512 .f32 × FVec F S512 .f32) : FVec F S512 .f32 × FVec F S512 .f32 :=
  (select (wins p.1 p.2 q.1 q.2) p.1 q.1, select (wins p.1 p.2 q.1 q.2) p.2 q.2)

/-- The pair device `c` computes from its block and sends to the others. -/
def pairOf (xs : Dev nD → Vec F S1024x512 .f32) (c : Dev nD) : FVec F S512 .f32 × FVec F S512 .f32 :=
  (colMax (xs c), colIdx (devWord c) (xs c))

set_option backward.proofsInPublic true in
/-- The device `s` places further round the mesh axis. -/
def up (s : Fin 4) (c : Dev nD) : Dev nD := ⟨(c.val + s.val) % 4, Nat.mod_lt _ (by decide)⟩
set_option backward.proofsInPublic true in
/-- The device `s` places back round the mesh axis. -/
def dn (s : Fin 4) (c : Dev nD) : Dev nD := ⟨(c.val + (4 - s.val)) % 4, Nat.mod_lt _ (by decide)⟩

theorem dn_up (s : Fin 4) (c : Dev nD) : dn s (up s c) = c := by revert s c; decide
theorem up_dn (s : Fin 4) (c : Dev nD) : up s (dn s c) = c := by revert s c; decide

/-- The pair device `c` ends with: its own, then those of the devices three, one and two places further, each taken where better. -/
def final (xs : Dev nD → Vec F S1024x512 .f32) (c : Dev nD) : FVec F S512 .f32 × FVec F S512 .f32 :=
  better (pairOf xs (up 2 c)) (better (pairOf xs (up 1 c)) (better (pairOf xs (up 3 c)) (pairOf xs c)))

/-- The result array: the value in row 0, the index in row 1. -/
def outRows (p : FVec F S512 .f32 × FVec F S512 .f32) : Vec F S2x512 .f32 := fun j =>
  if (j 0).val = 0 then p.1 (ix1 ⟨(j 1).val, (j 1).isLt⟩) else p.2 (ix1 ⟨(j 1).val, (j 1).isLt⟩)

end Cert.Argmax

end
-- ==== Proof.Loads.lean ====
/-
# The walk over the block, run

The program's parts 3 to 20 only load from the input's staging buffer. `Loads` says so of a program, and what it returns; the
parts' lemmas state their results by the running maxima of Values.lean.
-/
module

public import proofs.«01_k».proof.Proof.Values
public import proofs.«01_k».proof.Proof.Gen.KernelIdeal.Skeleton
public import proofs.«01_k».proof.Proof.Gen.KernelIdeal.Launch
public import Idealize.ShloMosaic.Lib.PointwiseCore
public import Idealize.ShloMosaic.Lib.Rounds
public import Idealize.ShloMosaic.Lib.Pipeline.Kit
public import Idealize.ShloMosaic.Lib.Tactic

@[expose] public section

noncomputable section

namespace Cert.Argmax

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state (duties named by `Fin 3`) beside the pipeline's. -/
abbrev UB : Type := URounds (GSem nD τ sig) (Fin 3)
abbrev UU : Type := UR sig nD τ × UB

local notation "𝕄" => MT nD τ sig Unit (Elt F) ℕ UU ℕ

abbrev xM : Memref sig .tc .vmem S1024x512 .f32 := Memref.whole cc0_stg0_0

/-- The input's staging buffer of device `c`, holding `x`. -/
def xPts (c : Dev nD) (x : Vec F S1024x512 .f32) : sProp 𝕄 := ((c : Thread nD τ).loc cc0_stg0_0) ↦{fullShare} x

/-- The weakest precondition of a program of device `c`'s core. -/
abbrev wpc (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- `p` only loads from the input's staging buffer, holding `x`, and returns `v`. -/
def Loads (c : Dev nD) (x : Vec F S1024x512 .f32) {α : Type} (p : Prog (TpuEff nD τ sig (Elt F) Λ₀ .tc) α) (v : α) : Prop :=
  ∀ Q : α → sProp 𝕄, iprop(xPts c x ∗ (xPts c x -∗ Q v)) ⊢ wpc c p Q

/-- A program that loads from the input, at the head of another. -/
theorem Loads.step {c : Dev nD} {x : Vec F S1024x512 .f32} {α β : Type} {p : Prog (TpuEff nD τ sig (Elt F) Λ₀ .tc) α} {v : α}
    (h : Loads c x p v) (k : α → Prog (TpuEff nD τ sig (Elt F) Λ₀ .tc) β) (Q : β → sProp 𝕄) :
    xPts c x ⊢ iprop((xPts c x -∗ wpc c (k v) Q) -∗ wpc c (p >>= k) Q) := by
  unfold wpc; rw [wp_bind]
  iintro Hx Hk
  iapply (h fun a => wp frame (wpE (defs₀ (F := F)) Variants.none (c : Thread nD τ) none) Set.univ (k a) Q)
  isplitl [Hx]; · iexact Hx
  iexact Hk

theorem loads_pure {c : Dev nD} {x : Vec F S1024x512 .f32} {α : Type} {v w : α} (h : v = w) :
    Loads c x (pure v : Prog (TpuEff nD τ sig (Elt F) Λ₀ .tc) α) w := fun Q => by
  subst h
  rw [Prog.pure_eq_ret]; unfold wpc; rw [wp_ret]
  iintro ⟨Hx, Hk⟩
  imodintro
  iapply Hk; iexact Hx

/-- One program that loads from the input after another. -/
theorem Loads.bind {c : Dev nD} {x : Vec F S1024x512 .f32} {α β : Type} {p : Prog (TpuEff nD τ sig (Elt F) Λ₀ .tc) α} {v : α}
    {k : α → Prog (TpuEff nD τ sig (Elt F) Λ₀ .tc) β} {w : β} (h : Loads c x p v) (h' : Loads c x (k v) w) : Loads c x (p >>= k) w := fun Q => by
  iintro ⟨Hx, Hk⟩
  iapply (h.step k Q) $$ Hx
  iintro Hx
  iapply (h' Q)
  isplitl [Hx]; · iexact Hx
  iexact Hk

/-- The load of the eight rows from row `k` reads group `k / 8`. -/
theorem read_rows8 (x : Vec F S1024x512 .f32) {k : ℕ} (hk : 8 * (k / 8) = k) (hin : ∀ a, (![k, 0] : Fin 2 → ℕ) a + S8x512.size a ≤ S1024x512.size a) :
    (xM : Memref sig .tc .vmem S1024x512 .f32).view.readAt (Elt F) (Rect.unit (s := S1024x512) ![k, 0] S8x512.size hin).toLoadRect x
      = rows8 x (k / 8) := by
  funext j
  show x _ = x _
  refine congrArg x (funext fun a => Fin.ext ?_)
  have h0 : (j 0).val < 8 := (j 0).isLt
  have h1 : k + 8 ≤ 1024 := hin 0
  match a with
  | ⟨0, _⟩ =>
    show k + 1 * (j 0).val = (8 * (k / 8) + (j 0).val) % 1024
    rw [hk, Nat.mod_eq_of_lt (by omega), Nat.one_mul]
  | ⟨1, _⟩ =>
    show 0 + 1 * (j 1).val = (j 1).val
    omega

theorem loads_load {c : Dev nD} {x : Vec F S1024x512 .f32} {α : Type} {k : ℕ} (hk : 8 * (k / 8) = k)
    {hin : ∀ a, (![k, 0] : Fin 2 → ℕ) a + S8x512.size a ≤ S1024x512.size a} {hl}
    {K : Vec F S8x512 .f32 → Prog (TpuEff nD τ sig (Elt F) Λ₀ .tc) α} {v : α} (h : Loads c x (K (rows8 x (k / 8))) v) :
    Loads c x (Prog.lift (.load xM (Rect.unit (s := S1024x512) ![k, 0] S8x512.size hin).toLoadRect hl) >>= K) v := fun Q => by
  simp only [Prog.lift, Prog.bind_op, Prog.bind_ret]
  have h' := h Q
  unfold wpc xPts at *
  iintro ⟨Hx, Hk⟩
  iapply (wp_load Variants.none (c : Thread nD τ) none Set.univ (m := xM) (Finset.subset_univ _)) $$ Hx; iintro Hx
  rw [read_rows8 x hk]
  iapply h'
  isplitl [Hx]; · iexact Hx
  iexact Hk

/-! ## The program's parts

What the parts hand on, from the state `st` after group `n`: at the start of group `n + 2` (`atBcast`: the groups, where group
`n + 1` exceeded, the maxima after it, its number), in the middle of group `n + 1` (`atMask`), and between groups (`atRest`). -/

abbrev atBcast (x : Vec F S1024x512 .f32) (n : ℕ) (st : Walk F) :
    Σ' (_ : IVec S8x512 32) (_ : IVec S8x512 1) (_ : FVec F S8x512 .f32), IVec S8x512 32 :=
  ⟨st.2, exceeds x n st, (walkStep x n st).1, broadcast S8x512 (BitVec.ofNat 32 (n + 1))⟩

abbrev atMask (x : Vec F S1024x512 .f32) (n : ℕ) (st : Walk F) :
    Σ' (_ : FVec F S8x512 .f32) (_ : IVec S8x512 32) (_ : FVec F S8x512 .f32), IVec S8x512 1 :=
  ⟨st.1, st.2, grp x (n + 1), exceeds x n st⟩

abbrev atRest (st : Walk F) : Σ' (_ : FVec F S8x512 .f32), IVec S8x512 32 := ⟨st.1, st.2⟩

section Parts

variable (c : Dev nD) (x : Vec F S1024x512 .f32) (hx : (xM : Memref sig .tc .vmem S1024x512 .f32).IsWhole)
  (o : Memref sig .tc .vmem S2x512 .f32) (ho : o.IsWhole) (s : Memref sig .tc .vmem S4x2x512 .f32) (hs : s.IsWhole) (a b : DmaSems sig S4)

set_option maxHeartbeats 1000000 in
/-- Each of the parts 3 to 20 takes its six or seven groups into the state. -/
theorem parts (st : Walk F) :
    Loads c x (k0_part3 xM hx o ho s hs a b st.2 (exceeds x 3 st) (walkStep x 3 st).1 (broadcast S8x512 4#32)) (atMask x 10 (walkFrom x 3 st 7)) ∧
    Loads c x (k0_part4 xM hx o ho s hs a b st.1 st.2 (grp x 11) (exceeds x 10 st)) (atRest (walkFrom x 10 st 7)) ∧
    Loads c x (k0_part5 xM hx o ho s hs a b st.1 st.2) (atBcast x 23 (walkFrom x 17 st 6)) ∧
    Loads c x (k0_part6 xM hx o ho s hs a b st.2 (exceeds x 23 st) (walkStep x 23 st).1 (broadcast S8x512 24#32)) (atMask x 30 (walkFrom x 23 st 7)) ∧
    Loads c x (k0_part7 xM hx o ho s hs a b st.1 st.2 (grp x 31) (exceeds x 30 st)) (atRest (walkFrom x 30 st 7)) ∧
    Loads c x (k0_part8 xM hx o ho s hs a b st.1 st.2) (atBcast x 43 (walkFrom x 37 st 6)) ∧
    Loads c x (k0_part9 xM hx o ho s hs a b st.2 (exceeds x 43 st) (walkStep x 43 st).1 (broadcast S8x512 44#32)) (atMask x 50 (walkFrom x 43 st 7)) ∧
    Loads c x (k0_part10 xM hx o ho s hs a b st.1 st.2 (grp x 51) (exceeds x 50 st)) (atRest (walkFrom x 50 st 7)) ∧
    Loads c x (k0_part11 xM hx o ho s hs a b st.1 st.2) (atBcast x 63 (walkFrom x 57 st 6)) ∧
    Loads c x (k0_part12 xM hx o ho s hs a b st.2 (exceeds x 63 st) (walkStep x 63 st).1 (broadcast S8x512 64#32)) (atMask x 70 (walkFrom x 63 st 7)) ∧
    Loads c x (k0_part13 xM hx o ho s hs a b st.1 st.2 (grp x 71) (exceeds x 70 st)) (atRest (walkFrom x 70 st 7)) ∧
    Loads c x (k0_part14 xM hx o ho s hs a b st.1 st.2) (atBcast x 83 (walkFrom x 77 st 6)) ∧
    Loads c x (k0_part15 xM hx o ho s hs a b st.2 (exceeds x 83 st) (walkStep x 83 st).1 (broadcast S8x512 84#32)) (atMask x 90 (walkFrom x 83 st 7)) ∧
    Loads c x (k0_part16 xM hx o ho s hs a b st.1 st.2 (grp x 91) (exceeds x 90 st)) (atRest (walkFrom x 90 st 7)) ∧
    Loads c x (k0_part17 xM hx o ho s hs a b st.1 st.2) (atBcast x 103 (walkFrom x 97 st 6)) ∧
    Loads c x (k0_part18 xM hx o ho s hs a b st.2 (exceeds x 103 st) (walkStep x 103 st).1 (broadcast S8x512 104#32)) (atMask x 110 (walkFrom x 103 st 7)) ∧
    Loads c x (k0_part19 xM hx o ho s hs a b st.1 st.2 (grp x 111) (exceeds x 110 st)) (atRest (walkFrom x 110 st 7)) ∧
    Loads c x (k0_part20 xM hx o ho s hs a b st.1 st.2) (atBcast x 123 (walkFrom x 117 st 6)) := by
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  refine ⟨?_, ?_, ?_, ?_, ?_, ?_, ?_, ?_, ?_, ?_, ?_, ?_, ?_, ?_, ?_, ?_, ?_, ?_⟩
  all_goals
    (repeat with_reducible refine loads_load rfl ?_)
    refine loads_pure ?_
    unfold_payloads
    dsimp only [atBcast, atMask, atRest, exceeds, walkFrom, walkStep, grp, Nat.reduceAdd]

/-- The parts 3 to 20, one after the other: the walk from group 4 to group 124. -/
theorem walk_run : Loads c x (do
      let ⟨v103, v105, v107, v108⟩ ← k0_part3 xM hx o ho s hs a b (scan x 3).2 (exceeds x 3 (scan x 3)) (scan x 4).1 (broadcast S8x512 4#32)
      let ⟨v145, v147⟩ ← k0_part4 xM hx o ho s hs a b v103 v105 v107 v108
      let ⟨v183, v186, v187, v188⟩ ← k0_part5 xM hx o ho s hs a b v145 v147
      let ⟨v223, v225, v227, v228⟩ ← k0_part6 xM hx o ho s hs a b v183 v186 v187 v188
      let ⟨v265, v267⟩ ← k0_part7 xM hx o ho s hs a b v223 v225 v227 v228
      let ⟨v303, v306, v307, v308⟩ ← k0_part8 xM hx o ho s hs a b v265 v267
      let ⟨v343, v345, v347, v348⟩ ← k0_part9 xM hx o ho s hs a b v303 v306 v307 v308
      let ⟨v385, v387⟩ ← k0_part10 xM hx o ho s hs a b v343 v345 v347 v348
      let ⟨v423, v426, v427, v428⟩ ← k0_part11 xM hx o ho s hs a b v385 v387
      let ⟨v463, v465, v467, v468⟩ ← k0_part12 xM hx o ho s hs a b v423 v426 v427 v428
      let ⟨v505, v507⟩ ← k0_part13 xM hx o ho s hs a b v463 v465 v467 v468
      let ⟨v543, v546, v547, v548⟩ ← k0_part14 xM hx o ho s hs a b v505 v507
      let ⟨v583, v585, v587, v588⟩ ← k0_part15 xM hx o ho s hs a b v543 v546 v547 v548
      let ⟨v625, v627⟩ ← k0_part16 xM hx o ho s hs a b v583 v585 v587 v588
      let ⟨v663, v666, v667, v668⟩ ← k0_part17 xM hx o ho s hs a b v625 v627
      let ⟨v703, v705, v707, v708⟩ ← k0_part18 xM hx o ho s hs a b v663 v666 v667 v668
      let ⟨v745, v747⟩ ← k0_part19 xM hx o ho s hs a b v703 v705 v707 v708
      k0_part20 xM hx o ho s hs a b v745 v747)
    (atBcast x 123 (scan x 123)) := by
  have P := parts (F := F) c x hx o ho s hs a b
  have e : ∀ n k, walkFrom x n (scan x n) k = scan x (n + k) := fun n k => (scan_from x n k).symm
  refine Loads.bind (P (scan x 3)).1 ?_; rw [e]
  refine Loads.bind (P (scan x 10)).2.1 ?_; rw [e]
  refine Loads.bind (P (scan x 17)).2.2.1 ?_; rw [e]
  refine Loads.bind (P (scan x 23)).2.2.2.1 ?_; rw [e]
  refine Loads.bind (P (scan x 30)).2.2.2.2.1 ?_; rw [e]
  refine Loads.bind (P (scan x 37)).2.2.2.2.2.1 ?_; rw [e]
  refine Loads.bind (P (scan x 43)).2.2.2.2.2.2.1 ?_; rw [e]
  refine Loads.bind (P (scan x 50)).2.2.2.2.2.2.2.1 ?_; rw [e]
  refine Loads.bind (P (scan x 57)).2.2.2.2.2.2.2.2.1 ?_; rw [e]
  refine Loads.bind (P (scan x 63)).2.2.2.2.2.2.2.2.2.1 ?_; rw [e]
  refine Loads.bind (P (scan x 70)).2.2.2.2.2.2.2.2.2.2.1 ?_; rw [e]
  refine Loads.bind (P (scan x 77)).2.2.2.2.2.2.2.2.2.2.2.1 ?_; rw [e]
  refine Loads.bind (P (scan x 83)).2.2.2.2.2.2.2.2.2.2.2.2.1 ?_; rw [e]
  refine Loads.bind (P (scan x 90)).2.2.2.2.2.2.2.2.2.2.2.2.2.1 ?_; rw [e]
  refine Loads.bind (P (scan x 97)).2.2.2.2.2.2.2.2.2.2.2.2.2.2.1 ?_; rw [e]
  refine Loads.bind (P (scan x 103)).2.2.2.2.2.2.2.2.2.2.2.2.2.2.2.1 ?_; rw [e]
  refine Loads.bind (P (scan x 110)).2.2.2.2.2.2.2.2.2.2.2.2.2.2.2.2.1 ?_; rw [e]
  have h := (P (scan x 117)).2.2.2.2.2.2.2.2.2.2.2.2.2.2.2.2.2; rw [e] at h; exact h

end Parts

end Cert.Argmax

end
-- ==== Proof.Slots.lean ====
/-
# The four slots of the scratch buffer

The scratch buffer holds four slots of two rows: slot 0 the device's own pair (value row, index row), slots 1 to 3 the pairs the
three other devices send. This file says where a slot's elements lie, that the program's loads and stores keep to a slot, what
they read and write, and that a transfer from slot 0 lands the pair it carries.
-/
module

public import proofs.«01_k».proof.Proof.Loads
public import Idealize.ShloMosaic.Lib.Ring.FamCut
public import Idealize.ShloMosaic.Lib.ValueLayout
public import Idealize.ShloMosaic.Lib.ValueIdxCore

@[expose] public section

noncomputable section

namespace Cert.Argmax

open Cert.KernelIdeal Cert.KernelIdeal.Gen
open Idealize.ShloMosaic hiding ix1 ix2 ix3 eq_ix1
open Idealize.ShloMosaic.TcCoe Idealize.ShloMosaic.ValueIdx
open Idealize.SL Idealize.SL.RA Idealize.SL.BI
open scoped Idealize.SL.BI

variable {F : FTy → Type} [FloatOps F]

local notation "𝕄" => MT nD τ sig Unit (Elt F) ℕ UU ℕ

/-- The scratch buffer. -/
abbrev sM : Memref sig .tc .vmem S4x2x512 .f32 := Memref.whole cc0_scratch0

/-- Contents of the scratch buffer. -/
abbrev Scr (F : FTy → Type) : Type := (cc0_scratch0 : Ref sig .tc).ty.Contents (Elt F)

theorem slot_inb {k : ℕ} (hk : k < 4) : ∀ a, (![k, 0, 0] : Fin 3 → ℕ) a + S1x2x512.size a ≤ S4x2x512.size a := by
  intro a; fin_cases a
  · show k + 1 ≤ 4; omega
  · show 0 + 2 ≤ 2; omega
  · show 0 + 512 ≤ 512; omega

/-- Slot `k`, as the program names it. -/
abbrev slot (k : ℕ) (hk : k < 4) : Memref sig .tc .vmem S2x512 .f32 :=
  (sM.slice (Rect.unit (s := S4x2x512) ![k, 0, 0] S1x2x512.size (slot_inb hk)) (fun _ => rfl)).squeeze S2x512 squeezes_S1x2x512_S2x512

theorem row_inb {k r : ℕ} (hk : k < 4) (hr : r < 2) : ∀ a, (![k, r, 0] : Fin 3 → ℕ) a + S1x1x512.size a ≤ S4x2x512.size a := by
  intro a; fin_cases a
  · show k + 1 ≤ 4; omega
  · show r + 1 ≤ 2; omega
  · show 0 + 512 ≤ 512; omega

/-- Row `r` of slot `k`, as the program's loads and stores name it. -/
abbrev row (k r : ℕ) (hk : k < 4) (hr : r < 2) : Rect S4x2x512 := Rect.unit (s := S4x2x512) ![k, r, 0] S1x1x512.size (row_inb hk hr)

/-- Slot `k`'s element `(r, j)` is the scratch's element `(k, r, j)`. -/
theorem slot_emb {k : ℕ} (hk : k < 4) (r : Fin 2) (j : Fin 512) :
    (slot k hk).view.emb (ix2 r j) = (ix3 (⟨k, hk⟩ : Fin 4) r j : S4x2x512.Idx) := by
  show (Rect.unit (s := S4x2x512) ![k, 0, 0] S1x2x512.size (slot_inb hk)).emb (Shape.reshapeEquiv _ (ix2 r j)) = _
  rw [reshapeEquiv_ix2_1ab]
  refine funext fun a => Fin.ext ?_
  fin_cases a
  · show k + 1 * 0 = k; omega
  · show 0 + 1 * r.val = r.val; omega
  · show 0 + 1 * j.val = j.val; omega

/-- Row `r` of slot `k`'s element `j` is the scratch's element `(k, r, j)`. -/
theorem row_emb {k r : ℕ} (hk : k < 4) (hr : r < 2) (u v : Fin 1) (j : Fin 512) :
    (sM.access (row k r hk hr)).emb (ix3 u v j) = (ix3 (⟨k, hk⟩ : Fin 4) (⟨r, hr⟩ : Fin 2) j : S4x2x512.Idx) := by
  refine funext fun a => Fin.ext ?_
  fin_cases a
  · show k + 1 * u.val = k; omega
  · show r + 1 * v.val = r; omega
  · show 0 + 1 * j.val = j.val; omega

/-- Slot `k` is what lies at first coordinate `k`. -/
theorem mem_slot {k : ℕ} (hk : k < 4) (i : S4x2x512.Idx) : i ∈ (slot k hk).view.set ↔ (i 0).val = k := by
  rw [show (slot k hk).view.set = (Rect.unit (s := S4x2x512) ![k, 0, 0] S1x2x512.size (slot_inb hk)).set from
    (View.set_reshape _ _).trans (View.set_slice_whole cc0_scratch0 _), Rect.mem_set_unit]
  constructor
  · intro h
    have h0 := h 0
    change k ≤ (i 0).val ∧ (i 0).val < k + 1 at h0; omega
  · intro h a
    fin_cases a
    · change k ≤ (i 0).val ∧ (i 0).val < k + 1; omega
    · have := (i 1).isLt; change 0 ≤ (i 1).val ∧ (i 1).val < 0 + 2; exact ⟨Nat.zero_le _, by simpa using this⟩
    · have := (i 2).isLt; change 0 ≤ (i 2).val ∧ (i 2).val < 0 + 512; exact ⟨Nat.zero_le _, by simpa using this⟩

/-- The slots share no element. -/
theorem slot_disjoint {k k' : ℕ} (hk : k < 4) (hk' : k' < 4) (h : k ≠ k') : Disjoint (slot k hk).view.set (slot k' hk').view.set :=
  Finset.disjoint_left.mpr fun i hi hi' => h (((mem_slot hk i).mp hi).symm.trans ((mem_slot hk' i).mp hi'))

theorem row_set {k r : ℕ} (hk : k < 4) (hr : r < 2) (i : S4x2x512.Idx) : i ∈ (row k r hk hr).set ↔ (i 0).val = k ∧ (i 1).val = r := by
  rw [Rect.mem_set_unit]
  constructor
  · intro h
    have h0 := h 0; have h1 := h 1
    change k ≤ (i 0).val ∧ (i 0).val < k + 1 at h0; change r ≤ (i 1).val ∧ (i 1).val < r + 1 at h1
    omega
  · intro h a
    fin_cases a
    · change k ≤ (i 0).val ∧ (i 0).val < k + 1; omega
    · change r ≤ (i 1).val ∧ (i 1).val < r + 1; omega
    · have := (i 2).isLt; change 0 ≤ (i 2).val ∧ (i 2).val < 0 + 512; exact ⟨Nat.zero_le _, by simpa using this⟩

/-- A load of one row of a slot reads within the slot. -/
theorem row_load {k r : ℕ} (hk : k < 4) (hr : r < 2) : sM.view.setOn (row k r hk hr).toLoadRect.set ⊆ (slot k hk).view.set := by
  intro i hi
  have hi' : i ∈ (row k r hk hr).set := by
    obtain ⟨y, hy, rfl⟩ := Finset.mem_map.mp hi; exact hy
  exact (mem_slot hk i).mpr ((row_set hk hr i).mp hi').1

/-- A store of one row of a slot writes within the slot. -/
theorem row_store {k r : ℕ} (hk : k < 4) (hr : r < 2) : (sM.access (row k r hk hr)).setOn Finset.univ ⊆ (slot k hk).view.set := by
  intro i hi
  rw [View.setOn_univ, View.set_slice_whole] at hi
  exact (mem_slot hk i).mpr ((row_set hk hr i).mp hi).1

/-- A slot of device `c` at share `q`, the scratch's contents being `f`. -/
def slotPts (c : Dev nD) (k : ℕ) (hk : k < 4) (q : PosShare TreeShare) (f : Scr F) : sProp 𝕄 :=
  (slot k hk).view.loc (c : Thread nD τ) ↦[(slot k hk).view.set]{q} f

instance slotPts_storable (c : Dev nD) (k : ℕ) (hk : k < 4) (q : PosShare TreeShare) (f) : BI.Storable (upEmb : UEmb _ 𝕄) (slotPts (F := F) c k hk q f) := by
  unfold slotPts; infer_instance

/-- A pair of rows. -/
abbrev Pair (F : FTy → Type) [FloatOps F] : Type := FVec F S512 .f32 × FVec F S512 .f32

/-- Slot `k` of the contents `f` holds the pair `p`. -/
def Holds (k : ℕ) (hk : k < 4) (p : Pair F) (f : Scr F) : Prop :=
  ∀ j : Fin 512, f (ix3 (⟨k, hk⟩ : Fin 4) (0 : Fin 2) j : S4x2x512.Idx) = p.1 (ix1 j)
    ∧ f (ix3 (⟨k, hk⟩ : Fin 4) (1 : Fin 2) j : S4x2x512.Idx) = p.2 (ix1 j)

/-- The value row loaded from a slot that holds a pair. -/
theorem read_fst {k : ℕ} (hk : k < 4) {p : Pair F} {f : Scr F} (h : Holds k hk p f) :
    shapeCast S512 (sM.view.readAt (Elt F) (row k 0 hk Nat.zero_lt_two).toLoadRect f) shapeCasts_S1x1x512_S512 = p.1 := by
  refine funext fun i => ?_
  obtain ⟨j, rfl⟩ : ∃ j : Fin 512, i = ix1 j := ⟨i 0, eq_ix1 i⟩
  rw [shapeCast_apply _ _ _ (ix3 (0 : Fin 1) (0 : Fin 1) j) (by
    rw [Shape.rowMajor_val_three, Shape.rowMajor_val_one]; show (0 * 1 + 0) * 512 + j.val = j.val; omega)]
  rw [← (h j).1]
  exact congrArg f (row_emb hk Nat.zero_lt_two 0 0 j)

/-- The index row loaded from a slot that holds a pair. -/
theorem read_snd {k : ℕ} (hk : k < 4) {p : Pair F} {f : Scr F} (h : Holds k hk p f) :
    shapeCast S512 (sM.view.readAt (Elt F) (row k 1 hk Nat.one_lt_two).toLoadRect f) shapeCasts_S1x1x512_S512 = p.2 := by
  refine funext fun i => ?_
  obtain ⟨j, rfl⟩ : ∃ j : Fin 512, i = ix1 j := ⟨i 0, eq_ix1 i⟩
  rw [shapeCast_apply _ _ _ (ix3 (0 : Fin 1) (0 : Fin 1) j) (by
    rw [Shape.rowMajor_val_three, Shape.rowMajor_val_one]; show (0 * 1 + 0) * 512 + j.val = j.val; omega)]
  rw [← (h j).2]
  exact congrArg f (row_emb hk Nat.one_lt_two 0 0 j)

/-- Two rows stored one after the other leave the slot holding the pair. -/
theorem holds_stored {k : ℕ} (hk : k < 4) (p : Pair F) (f : Scr F) :
    Holds k hk p ((sM.access (row k 1 hk Nat.one_lt_two)).write (Elt F)
      ((sM.access (row k 0 hk Nat.zero_lt_two)).write (Elt F) f (shapeCast S1x1x512 p.1 shapeCasts_S512_S1x1x512) Finset.univ)
      (shapeCast S1x1x512 p.2 shapeCasts_S512_S1x1x512) Finset.univ) := by
  have cast : ∀ (v : FVec F S512 .f32) (j : Fin 512), shapeCast S1x1x512 v shapeCasts_S512_S1x1x512 (ix3 (0 : Fin 1) (0 : Fin 1) j) = v (ix1 j) := fun v j =>
    shapeCast_apply _ _ _ (ix1 j) (by rw [Shape.rowMajor_val_three, Shape.rowMajor_val_one]; show j.val = (0 * 1 + 0) * 512 + j.val; omega)
  intro j
  constructor
  · rw [View.write_of_not_mem]
    · refine (congrArg _ (row_emb hk Nat.zero_lt_two 0 0 j).symm).trans ?_
      refine (View.write_emb_of_mem _ _ (Finset.mem_univ _)).trans ?_
      exact cast p.1 j
    · rw [View.setOn_univ, View.set_slice_whole]
      intro hm
      exact absurd ((row_set hk _ _).mp hm).2 (by show ¬ 0 = 1; decide)
  · refine (congrArg _ (row_emb hk Nat.one_lt_two 0 0 j).symm).trans ?_
    refine (View.write_emb_of_mem _ _ (Finset.mem_univ _)).trans ?_
    exact cast p.2 j

/-- A transfer from a slot that holds a pair leaves its destination slot, of whichever device, holding it. -/
theorem holds_landed {k k' : ℕ} (hk : k < 4) (hk' : k' < 4) {p : Pair F} {fs : Scr F}
    (h : Holds k hk p fs) (fd : Scr F) :
    Holds k' hk' p ((slot k' hk').view.write (Elt F) fd ((slot k hk).view.read (Elt F) fs) Finset.univ) := by
  have at_ : ∀ (r : Fin 2) (j : Fin 512), ((slot k' hk').view.write (Elt F) fd ((slot k hk).view.read (Elt F) fs) Finset.univ)
      (ix3 (⟨k', hk'⟩ : Fin 4) r j : S4x2x512.Idx) = fs (ix3 (⟨k, hk⟩ : Fin 4) r j : S4x2x512.Idx) := fun r j => by
    refine (congrArg _ (slot_emb hk' r j).symm).trans ?_
    refine (View.write_emb_of_mem _ _ (Finset.mem_univ _)).trans ?_
    exact congrArg fs (slot_emb hk r j)
  exact fun j => ⟨(at_ 0 j).trans (h j).1, (at_ 1 j).trans (h j).2⟩

end Cert.Argmax

end
-- ==== Proof.Protocol.lean ====
/-
# The handshake of the four devices

Each device tells every other, by a unit on that device's barrier semaphore, that one of its slots may be written, and hands the
slot over with it; having collected three units it sends its pair into the three slots it was handed. Slots and offsets are
numbered `k : Fin 3`, the slot being number `k + 1` and the offset `k + 1` places round the mesh axis.

This file names the cells, says what each of them hands over (the schedule), what each device owes at launch, and at which level
each cell is waited on.
-/
module

public import proofs.«01_k».proof.Proof.Slots

@[expose] public section

noncomputable section

namespace Cert.Argmax

open Cert.KernelIdeal Cert.KernelIdeal.Gen
open Idealize.ShloMosaic hiding ix1 ix2 ix3 eq_ix1 eq_ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The runtime's barrier semaphore. -/
abbrev barS : Sem sig := (SemArray.scalar (sig.barrier 0 rfl) : Sems sig S_).sem

theorem sem_inb {k : ℕ} (hk : k < 4) : ∀ a, (![k] : Fin 1 → ℕ) a + S1.size a ≤ S4.size a := by
  intro a; fin_cases a; show k + 1 ≤ 4; omega

/-- Send and receive semaphore number `k` of the arrays, as the program names them. -/
abbrev sendAt (k : ℕ) (hk : k < 4) : DmaSem sig := ((cc0_scratch1.slice (Rect.unit (s := S4) ![k] S1.size (sem_inb hk))).squeeze S_ squeezes_S1_S_).sem
abbrev recvAt (k : ℕ) (hk : k < 4) : DmaSem sig := ((cc0_scratch2.slice (Rect.unit (s := S4) ![k] S1.size (sem_inb hk))).squeeze S_ squeezes_S1_S_).sem

/-- The semaphore that counts the transfer into slot `k + 1` of the device `k + 1` places back as sent, -/
def sendQ (k : Fin 3) : DmaSem sig := ⟨5 - k.val, by show 5 - k.val < 10; omega⟩
/-- and the one that counts the transfer into one's own slot `k + 1` as received. -/
def recvQ (k : Fin 3) : DmaSem sig := ⟨7 + k.val, by show 7 + k.val < 10; omega⟩

theorem sendQ_eq : sendAt 3 (by decide) = sendQ 0 ∧ sendAt 2 (by decide) = sendQ 1 ∧ sendAt 1 (by decide) = sendQ 2 := by decide
theorem recvQ_eq : recvAt 1 (by decide) = recvQ 0 ∧ recvAt 2 (by decide) = recvQ 1 ∧ recvAt 3 (by decide) = recvQ 2 := by decide

abbrev barCell (c : Dev nD) : GSem nD τ sig := ((c : Thread nD τ), .reg barS)
abbrev sendCell (c : Dev nD) (k : Fin 3) : GSem nD τ sig := ((c : Thread nD τ), .dma (sendQ k))
abbrev recvCell (c : Dev nD) (k : Fin 3) : GSem nD τ sig := ((c : Thread nD τ), .dma (recvQ k))

/-- A slot's credit. -/
abbrev N : ℕ := (slot 0 (by decide)).view.dmaCredit
theorem N_pos : 0 < N := View.dmaCredit_pos _ (by decide)

/-! ## Contents -/

variable (xs : Dev nD → Vec F S1024x512 .f32)

/-- Contents of the scratch whose every slot holds the pair `p`. -/
def canon (p : Pair F) : Scr F := fun (i : S4x2x512.Idx) =>
  if (i 1).val = 0 then p.1 (ix1 ⟨(i 2).val, (i 2).isLt⟩) else p.2 (ix1 ⟨(i 2).val, (i 2).isLt⟩)

theorem holds_canon {k : ℕ} (hk : k < 4) (p : Pair F) : Holds k hk p (canon p) := fun j => ⟨rfl, rfl⟩

/-- A slot holds what a pair says, whatever the rest of the scratch holds. -/
theorem slotPts_canon (c : Dev nD) {k : ℕ} (hk : k < 4) (q : PosShare TreeShare) {p : Pair F} {f : Scr F} (h : Holds k hk p f) :
    slotPts c k hk q f = slotPts c k hk q (canon p) := by
  unfold slotPts
  refine pointsTo_congr fun (i : S4x2x512.Idx) hi => ?_
  have h0 : i 0 = (⟨k, hk⟩ : Fin 4) := Fin.ext ((mem_slot hk i).mp hi)
  obtain ⟨a, r, j, rfl⟩ : ∃ (a : Fin 4) (r : Fin 2) (j : Fin 512), i = ix3 a r j := ⟨i 0, i 1, i 2, eq_ix3 i⟩
  obtain rfl : a = ⟨k, hk⟩ := h0
  fin_cases r
  · exact (h j).1.trans (holds_canon hk p j).1.symm
  · exact (h j).2.trans (holds_canon hk p j).2.symm

/-- The share of slot 0 the transfer into slot `k + 1` reads at. -/
def sh : Fin 3 → PosShare TreeShare := fun | 1 => fullShare.left | 2 => fullShare.right.left | 0 => fullShare.right.right

/-- What the unit from `k + 1` places back hands device `c`: that device's slot `k + 1`, and that it has reached round 0 of the
    slot's receive cell. -/
def barPay (c : Dev nD) (k : Fin 3) : sProp 𝕄 :=
  iprop((∃ f, slotPts (dn k.succ c) k.succ.val k.succ.isLt fullShare f) ∗ reached ER (recvCell (dn k.succ c) k) 0)
/-- What a landing hands device `c`: its slot, holding the pair of the device `k + 1` places further. -/
def recvPay (c : Dev nD) (k : Fin 3) : sProp 𝕄 := slotPts c k.succ.val k.succ.isLt fullShare (canon (pairOf xs (up k.succ c)))
/-- What a transfer sent gives back: the share of slot 0 it read at. -/
def sendPay (c : Dev nD) (k : Fin 3) : sProp 𝕄 := slotPts c 0 (by decide) (sh k) (canon (pairOf xs c))

/-- The index a transfer's cell is numbered by. -/
def recvNo (q : DmaSem sig) : Fin 3 := ⟨(q.val - 7) % 3, Nat.mod_lt _ (by decide)⟩
def sendNo (q : DmaSem sig) : Fin 3 := ⟨(5 - q.val) % 3, Nat.mod_lt _ (by decide)⟩

/-- One round: a barrier cell has three duties of one unit; a send or receive cell one, of the slot's credit. -/
def sched : Rounds.Schedule (GSem nD τ sig) (Fin 3) 𝕄 where
  duties g r := if r = 0 ∧ g.1.2 = .tc then (match g.2 with
    | .reg _ => Finset.univ
    | .dma q => if 3 ≤ q.val ∧ q.val ≠ 6 then {0} else ∅) else ∅
  unitless _ := False
  amount g _ _ := match g.2 with
    | .reg _ => 1
    | .dma _ => N
  payload g _ k := match g.2 with
    | .reg _ => barPay g.1.1 k
    | .dma q => if 7 ≤ q.val then recvPay xs g.1.1 (recvNo q) else sendPay xs g.1.1 (sendNo q)
  amount_pos g _ _ _ := by
    rcases g with ⟨c, s | q⟩
    · exact Nat.one_pos
    · exact N_pos

instance sched_payload_storable (g : GSem nD τ sig) (r : ℕ) (d : Fin 3) : BI.Storable (upEmb : UEmb _ 𝕄) ((sched (F := F) xs).payload g r d) := by
  rcases g with ⟨c, s | q⟩
  · show BI.Storable upEmb (barPay c.1 d); unfold barPay; infer_instance
  · show BI.Storable upEmb (if 7 ≤ q.val then recvPay xs c.1 (recvNo q) else sendPay xs c.1 (sendNo q))
    unfold recvPay sendPay; split <;> infer_instance

section Sched
variable (c : Dev nD) (k : Fin 3)

theorem duties_bar : (sched xs).duties (barCell c) 0 = Finset.univ := by dsimp only [sched]; exact if_pos ⟨rfl, rfl⟩
theorem duties_send : (sched xs).duties (sendCell c k) 0 = {0} := by
  dsimp only [sched]; rw [if_pos ⟨rfl, rfl⟩]; exact if_pos (by show 3 ≤ 5 - k.val ∧ 5 - k.val ≠ 6; omega)
theorem duties_recv : (sched xs).duties (recvCell c k) 0 = {0} := by
  dsimp only [sched]; rw [if_pos ⟨rfl, rfl⟩]; exact if_pos (by show 3 ≤ 7 + k.val ∧ 7 + k.val ≠ 6; omega)
theorem duties_later (g : GSem nD τ sig) : ∀ r, 1 ≤ r → (sched xs).duties g r = ∅ :=
  fun r hr => by dsimp only [sched]; exact if_neg fun h => by omega

theorem expect_bar : (sched xs).expect (barCell c) 0 = 3 := by
  unfold Schedule.expect Schedule.amountOf
  rw [duties_bar]; rfl
theorem expect_send : (sched xs).expect (sendCell c k) 0 = N := by
  unfold Schedule.expect Schedule.amountOf; rw [duties_send, Finset.sum_singleton]; rfl
theorem expect_recv : (sched xs).expect (recvCell c k) 0 = N := by
  unfold Schedule.expect Schedule.amountOf; rw [duties_recv, Finset.sum_singleton]; rfl

theorem payload_bar : (sched xs).payload (barCell c) 0 k = barPay c k := rfl
theorem payload_send (d : Fin 3) : (sched xs).payload (sendCell c k) 0 d = sendPay xs c k := by
  fin_cases k <;> rfl
theorem payload_recv (d : Fin 3) : (sched xs).payload (recvCell c k) 0 d = recvPay xs c k := by
  fin_cases k <;> rfl

theorem bigSep_fin3 {Φ : Fin 3 → sProp 𝕄} : bigSep Finset.univ Φ = iprop(Φ 0 ∗ Φ 1 ∗ Φ 2) := bigSep_univ_eq_bigSepL [0, 1, 2] (by decide) (by decide) Φ

/-- What waiting for a barrier cell's round collects; -/
theorem rest_bar : bigSep ((sched xs).duties (barCell c) 0 \ ∅) (fun d => (sched xs).payload (barCell c) 0 d)
    = iprop(barPay c 0 ∗ barPay c 1 ∗ barPay c 2) := by
  rw [Finset.sdiff_empty, duties_bar, bigSep_fin3]; rfl
/-- a send cell's; -/
theorem rest_send : bigSep ((sched xs).duties (sendCell c k) 0 \ ∅) (fun d => (sched xs).payload (sendCell c k) 0 d) = sendPay xs c k := by
  rw [Finset.sdiff_empty, duties_send, bigSep_singleton, payload_send]
/-- a receive cell's. -/
theorem rest_recv : bigSep ((sched xs).duties (recvCell c k) 0 \ ∅) (fun d => (sched xs).payload (recvCell c k) 0 d) = recvPay xs c k := by
  rw [Finset.sdiff_empty, duties_recv, bigSep_singleton, payload_recv]

end Sched

/-! ## What each device owes at launch, and the levels -/

/-- A transfer owed into slot `k + 1` of the device `k + 1` places back. -/
def oweSend (c : Dev nD) (k : Fin 3) : CellTallies nD τ sig Unit := tallyAt (recvCell (dn k.succ c) k) () N
/-- The three transfers owed, in the reverse of the order they are made in. -/
def owed₃ (c : Dev nD) : CellTallies nD τ sig Unit := oweSend c 0 + oweSend c 2 + oweSend c 1
/-- A unit owed the barrier of the device `k + 1` places further. -/
def oweUnit (c : Dev nD) (k : Fin 3) : CellTallies nD τ sig Unit := tallyAt (barCell (up k.succ c)) () 1
/-- All a device owes at launch. -/
def O₀ (c : Dev nD) : CellTallies nD τ sig Unit := owed₃ c + oweUnit c 2 + oweUnit c 1 + oweUnit c 0

def L (g : GSem nD τ sig) : Finset Unit := if g.1.2 = .tc then {()} else ∅
/-- Barrier cells at level 1, receive cells at 2, all else at 0. -/
def lv (g : GSem nD τ sig) (_ : Unit) : ℕ := match g.2 with
  | .reg _ => 1
  | .dma q => if 7 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 3) (u : Unit) : lv (recvCell c k) u = 2 := if_pos (Nat.le_add_right 7 k.val)

theorem pos_add {A B : CellTallies nD τ sig Unit} {g : GSem nD τ sig} {u : Unit} (h : 0 < (A + B) g u) : 0 < A g u ∨ 0 < B g u := by
  rw [Pi.add_apply, Finsupp.add_apply] at h; omega
theorem pos_at {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

theorem owed₃_pos {c : Dev nD} {g : GSem nD τ sig} {u : Unit} (h : 0 < owed₃ c g u) : ∃ k, g = recvCell (dn k.succ c) k := by
  rcases pos_add h with h | h
  · rcases pos_add h with h | h <;> exact ⟨_, pos_at h⟩
  · exact ⟨_, pos_at h⟩
theorem O₀_pos {c : Dev nD} {g : GSem nD τ sig} {u : Unit} (h : 0 < O₀ c g u) :
    (∃ k, g = recvCell (dn k.succ c) k) ∨ ∃ k : Fin 3, g = barCell (up k.succ c) := by
  rcases pos_add h with h | h
  · rcases pos_add h with h | h
    · rcases pos_add h with h | h
      · exact .inl (owed₃_pos h)
      · exact .inr ⟨_, pos_at h⟩
    · exact .inr ⟨_, pos_at h⟩
  · exact .inr ⟨_, pos_at h⟩

/-- A staging semaphore may be waited on whatever the device owes. -/
theorem mayWait_stage (c : Dev nD) (q : DmaSem sig) (hq : q.val < 7) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact (if_neg (by omega)).le)
      (fun g u hg => by
        rcases O₀_pos hg with ⟨k, rfl⟩ | ⟨k, rfl⟩
        · rw [lv_recv]; decide
        · exact Nat.one_pos)
  · rw [MayWait_zero]; iintro -; iempintro

/-- The barrier may be waited on owing the three transfers: their cells lie above it. -/
theorem mayWait_bar (c : Dev nD) : (levAts L lv : sProp 𝕄) ⊢ MayWait (c : Thread nD τ) (.reg barS) () (owed₃ c) :=
  MayOwe.of_cut (L := L) (lev := lv) 1 (fun p hp => by rw [Finset.mem_singleton.mp hp, L_tc]; exact Finset.mem_singleton_self _)
    (fun g u hg => by obtain ⟨k, rfl⟩ := owed₃_pos hg; exact Finset.mem_singleton_self _)
    (fun p hp => by rw [Finset.mem_singleton.mp hp]; exact le_rfl)
    (fun g u hg => by obtain ⟨k, rfl⟩ := owed₃_pos hg; rw [lv_recv]; decide)

end Cert.Argmax

end
-- ==== Proof.Effects.lean ====
/-
# The protocol's steps

What each device knows throughout (`records`: every cell's invariant, and that round 0 of it is open), and one rule for each kind of
step that the program takes: a unit to another device's barrier, the wait for three units, a transfer, the wait for a transfer received
and the wait for a transfer sent. A wait leaves its cell closed, its counter at zero.
-/
module

public import proofs.«01_k».proof.Proof.Protocol

@[expose] public section

noncomputable section

namespace Cert.Argmax

open Cert.KernelIdeal Cert.KernelIdeal.Gen
open Idealize.ShloMosaic hiding ix1 ix2 ix3 eq_ix1 eq_ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's seven cells -/

/-- The barrier, the three send and the three receive semaphores. -/
abbrev csem : Fin 7 → SemLoc sig := fun
  | 0 => .reg barS
  | 1 => .dma (sendQ 0) | 2 => .dma (sendQ 1) | 3 => .dma (sendQ 2)
  | 4 => .dma (recvQ 0) | 5 => .dma (recvQ 1) | 6 => .dma (recvQ 2)
abbrev kcell (cj : Dev nD × Fin 7) : GSem nD τ sig := ((cj.1 : Thread nD τ), csem cj.2)

/-- The numbers of send cell `k` and receive cell `k` among the seven. -/
def si (k : Fin 3) : Fin 7 := ⟨k.val + 1, by omega⟩
def ri (k : Fin 3) : Fin 7 := ⟨k.val + 4, by omega⟩

theorem kcell_si (c : Dev nD) (k : Fin 3) : kcell (c, si k) = sendCell c k := by fin_cases k <;> rfl
theorem kcell_ri (c : Dev nD) (k : Fin 3) : kcell (c, ri k) = recvCell c k := by fin_cases k <;> rfl

variable (xs : Dev nD → Vec F S1024x512 .f32) (K : Dev nD × Fin 7 → ℕ)

/-- Every cell's invariant, under the names `K`, and that round 0 of every cell is open. -/
def records : sProp 𝕄 :=
  iprop((bigSep Finset.univ fun cj : Dev nD × Fin 7 => cellInv ER (sched xs) (K cj) (kcell cj))
    ∗ bigSep Finset.univ fun cj : Dev nD × Fin 7 => reached ER (kcell cj) 0)

instance records_persistent : BI.Persistent (records xs K) := by unfold records; infer_instance

theorem cell_at (cj : Dev nD × Fin 7) {g : GSem nD τ sig} (hg : kcell cj = g) :
    records xs K ⊢ iprop(cellInv ER (sched xs) (K cj) g ∗ reached ER g 0) := by
  subst hg
  have hI : (bigSep Finset.univ fun cj : Dev nD × Fin 7 => (cellInv ER (sched xs) (K cj) (kcell cj) : sProp 𝕄)) ⊢ cellInv ER (sched xs) (K cj) (kcell cj) :=
    bigSep_elim (Finset.mem_univ cj)
  have hR : (bigSep Finset.univ fun cj : Dev nD × Fin 7 => (reached ER (kcell cj) 0 : sProp 𝕄)) ⊢ reached ER (kcell cj) 0 := bigSep_elim (Finset.mem_univ cj)
  unfold records
  iintro ⟨#HI, #HR⟩
  isplitr
  · iapply hI; iexact HI
  · iapply hR; iexact HR

/-- What a device owes, whatever it has waited on. -/
def owesSome (c : Dev nD) (O : CellTallies nD τ sig Unit) : sProp 𝕄 := iprop(∃ W, owes (c : Thread nD τ) O W)

/-! ## The steps -/

section Steps

variable (c : Dev nD) (k : Fin 3)

/-- A unit to the barrier of the device `k + 1` places further: the device's own slot `k + 1` goes with it. -/
theorem wp_unit {n : Dev nD} (hn : n = up k.succ c) {a : ℕ} (ha : a = 1) (O : CellTallies nD τ sig Unit)
    {α : Type} {Q : α → sProp 𝕄} {p : PUnit → Prog (TpuEff nD τ sig (Elt F) Λ₀ .tc) α} :
    iprop(records xs K ∗ owesSome c (O + oweUnit c k) ∗ dutyTok ER (barCell (up k.succ c)) 0 k
        ∗ (∃ f, slotPts c k.succ.val k.succ.isLt fullShare f))
      ⊢ iprop((owesSome c O -∗ wpc c (p ⟨⟩) Q) -∗ wpc c (.op (.semSignal (n : Thread nD τ) barS a) p) Q) := by
  subst hn ha
  unfold owesSome
  iintro ⟨#HR, ⟨%W, HO⟩, Ht, Hs⟩ Hk
  ihave #Hb := (cell_at xs K (up k.succ c, 0) (g := barCell (up k.succ c)) rfl) $$ HR
  icases Hb with ⟨#HI, #Hr⟩
  ihave #Hv := (cell_at xs K (c, ri k) (kcell_ri c k)) $$ HR
  icases Hv with ⟨-, #Hrv⟩
  iapply (Rounds.wp_signal Variants.none ER (sched xs) (c : Thread nD τ) none (dst := (up k.succ c : Thread nD τ)) (κ := K (up k.succ c, 0))
      (r := 0) (d := k) (by rw [duties_bar]; exact Finset.mem_univ _) rfl () O rfl) $$ [HO Ht Hs]
  · isplitr; · iexact HI
    isplitl [HO]; · iexact HO
    isplitl [Ht]; · iexact Ht
    isplitl [Hs]
    · rw [payload_bar]; unfold barPay; rw [dn_up]
      isplitl [Hs]; · iexact Hs
      iexact Hrv
    iexact Hr
  iintro HO
  iapply Hk
  iexists W; iexact HO

/-- The wait for the three units: the slots of the three other devices come with them. -/
theorem wp_units {a : ℕ} (ha : a = 3) {α : Type} {Q : α → sProp 𝕄} {p : PUnit → Prog (TpuEff nD τ sig (Elt F) Λ₀ .tc) α} :
    iprop(records xs K ∗ levAts L lv ∗ cred (tallyAt (barCell c) () 3) ∗ owesSome c (owed₃ c) ∗ atPos ER (barCell c) 0 ∅ 0)
      ⊢ iprop(((owesSome c (owed₃ c) ∗ semVal (barCell c) 0 ∗ barPay c 0 ∗ barPay c 1 ∗ barPay c 2) -∗ wpc c (p ⟨⟩) Q)
          -∗ wpc c (.op (.semWait barS a) p) Q) := by
  subst ha
  unfold owesSome
  iintro ⟨#HR, #Hlev, Hc, ⟨%W, HO⟩, Hat⟩ Hk
  ihave #Hb := (cell_at xs K (c, 0) (g := barCell c) rfl) $$ HR
  icases Hb with ⟨#HI, -⟩
  iapply (Rounds.wp_wait_rest_token Variants.none ER (sched xs) (c : Thread nD τ) none (κ := K (c, 0))
      (wpE_semWait_eq Variants.none (c : Thread nD τ) none Set.univ) (Set.mem_univ _) () (O := owed₃ c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar xs c)) $$ Hpay
  imod (Rounds.cell_close ER (sched xs) (Set.mem_univ (K (c, 0))) (fun h => h) (R := 0 + 1) (duties_later xs (barCell c))) $$ [Hat] with Hz
  · isplitr; · iexact HI
    iexact Hat
  iapply Hk
  isplitl [HO]; · iexists _; iexact HO
  isplitl [Hz]; · iexact Hz
  iexact Hp

theorem slot_amount {j : ℕ} (hj : j < 4) (q : DmaSem sig) : (slot j hj).view.amount (.dma q) = N := rfl
theorem amount_send (d : Fin 3) : (sched xs).amount (sendCell c k) 0 d = N := rfl
theorem amount_recv (d : Fin 3) : (sched xs).amount (recvCell c k) 0 d = N := rfl

/-- A landing makes the receive cell's payload. -/
theorem pay_landed (fd : Scr F) :
    slotPts (dn k.succ c) k.succ.val k.succ.isLt fullShare
        ((slot k.succ.val k.succ.isLt).view.write (Elt F) fd ((slot 0 (by decide)).view.read (Elt F) (canon (pairOf xs c))) Finset.univ)
      ⊢ (sched xs).payload (recvCell (dn k.succ c) k) 0 0 := by
  rw [payload_recv]; unfold recvPay; rw [up_dn]
  exact Entails.of_eq (slotPts_canon (F := F) (dn k.succ c) k.succ.isLt fullShare (holds_landed (by decide) k.succ.isLt (holds_canon (by decide) (pairOf xs c)) fd))

/-- The library's transfer rule at this protocol's cells, the device addressed, the slot and the semaphores being equal to those the
    schedule names. -/
theorem wp_pair_at {n : Dev nD} (hn : n = dn k.succ c) {j : ℕ} {hj : j < 4} (hjk : j = k.succ.val) {sS sR : DmaSem sig} (hS : sS = sendQ k) (hR : sR = recvQ k)
    (O : CellTallies nD τ sig Unit) {hsc : (slot j hj).view.ref.isScScratch = false} {hsrc : (slot 0 (by decide)).view.WordExact} {hdst : (slot j hj).view.WordExact}
    {hsem : DmaTarget.Typed .vmem (.dma sR) (.remote (Dev.tc n : Thread nD τ) (slot j hj) (.dma sS) hsc)}
    {α : Type} {Q : α → sProp 𝕄} {p : PUnit → Prog (TpuEff nD τ sig (Elt F) Λ₀ .tc) α} (fd : Scr F) (W : Waits sig Unit) :
    iprop(cellInv ER (sched xs) (K (c, si k)) (sendCell c k) ∗ cellInv ER (sched xs) (K (dn k.succ c, ri k)) (recvCell (dn k.succ c) k)
        ∗ slotPts c 0 (by decide) (sh k) (canon (pairOf xs c)) ∗ slotPts (dn k.succ c) k.succ.val k.succ.isLt fullShare fd
        ∗ owes (c : Thread nD τ) (O + oweSend c k) W
        ∗ dutyTok ER (sendCell c k) 0 0 ∗ reached ER (sendCell c k) 0 ∗ dutyTok ER (recvCell (dn k.succ c) k) 0 0 ∗ reached ER (recvCell (dn k.succ c) k) 0)
      ⊢ iprop(((cred (tallyAt (sendCell c k) () N) ∗ owes (c : Thread nD τ) O W) -∗ wpc c (p ⟨⟩) Q)
          -∗ wpc c (.op (.enqueueDma (slot 0 (by decide)) (.remote (Dev.tc n : Thread nD τ) (slot j hj) (.dma sS) hsc) (.dma sR) hsrc hdst hsem) p) Q) := by
  subst hn hjk hS hR
  have h := pay_landed xs c k fd
  have h' : slotPts c 0 (by decide) (sh k) (canon (pairOf xs c)) ⊢ (sched xs).payload (sendCell c k) 0 0 := Entails.of_eq (payload_send xs c k 0).symm
  have hdS : (0 : Fin 3) ∈ (sched xs).duties (sendCell c k) 0 := by rw [duties_send]; exact Finset.mem_singleton_self _
  have hdR : (0 : Fin 3) ∈ (sched xs).duties (recvCell (dn k.succ c) k) 0 := by rw [duties_recv]; exact Finset.mem_singleton_self _
  unfold slotPts at h h' ⊢
  refine BI.Entails.trans ?_ (BI.Entails.trans (Rounds.wp_send_pointsTo (defs := defs₀ (F := F)) (Q := Q) (k := p) (hsc := hsc) (hsrc := hsrc) (hdst := hdst) (hsem := hsem) (Es := Set.univ)
    Variants.none ER (sched xs) (c : Thread nD τ) none (Γ := .empty) (O₀ := O + oweSend c k) (c' := (dn k.succ c : Thread nD τ))
    (sS := .dma (sendQ k)) (sem := .dma (recvQ k)) (κ₁ := K (c, si k)) (κ₂ := K (dn k.succ c, ri k))
    (src := slot 0 (by decide)) (dst := slot k.succ.val k.succ.isLt) (q := sh k) (fs := canon (pairOf xs c)) (fd := fd)
    (r₁ := 0) (r₂ := 0) (d₁ := 0) (d₂ := 0)
    hdS hdR () () N (slot_amount k.succ.isLt (recvQ k)) (amount_send xs c k 0) (amount_recv xs (dn k.succ c) k 0) O rfl (W := W) ?hp ?hq) ?_)
  case hp => exact h'
  case hq => exact h
  all_goals exact BI.Entails.refl _

/-- The transfer of the device's pair into slot `k + 1` of the device `k + 1` places back. -/
theorem wp_pair {n : Dev nD} (hn : n = dn k.succ c) {j : ℕ} {hj : j < 4} (hjk : j = k.succ.val) {sS sR : DmaSem sig} (hS : sS = sendQ k) (hR : sR = recvQ k)
    (O : CellTallies nD τ sig Unit) {hsc : (slot j hj).view.ref.isScScratch = false} {hsrc : (slot 0 (by decide)).view.WordExact} {hdst : (slot j hj).view.WordExact}
    {hsem : DmaTarget.Typed .vmem (.dma sR) (.remote (Dev.tc n : Thread nD τ) (slot j hj) (.dma sS) hsc)}
    {α : Type} {Q : α → sProp 𝕄} {p : PUnit → Prog (TpuEff nD τ sig (Elt F) Λ₀ .tc) α} :
    iprop(records xs K ∗ slotPts c 0 (by decide) (sh k) (canon (pairOf xs c)) ∗ (∃ f, slotPts (dn k.succ c) k.succ.val k.succ.isLt fullShare f)
        ∗ owesSome c (O + oweSend c k) ∗ dutyTok ER (sendCell c k) 0 0 ∗ dutyTok ER (recvCell (dn k.succ c) k) 0 0)
      ⊢ iprop(((cred (tallyAt (sendCell c k) () N) ∗ owesSome c O) -∗ wpc c (p ⟨⟩) Q)
          -∗ wpc c (.op (.enqueueDma (slot 0 (by decide)) (.remote (Dev.tc n : Thread nD τ) (slot j hj) (.dma sS) hsc) (.dma sR) hsrc hdst hsem) p) Q) := by
  unfold owesSome
  iintro ⟨#HR, Hs, ⟨%fd, Hd⟩, ⟨%W, HO⟩, HtS, HtR⟩ Hk
  ihave #Hs' := (cell_at xs K (c, si k) (kcell_si c k)) $$ HR
  icases Hs' with ⟨#HIs, #Hrs⟩
  ihave #Hv := (cell_at xs K (dn k.succ c, ri k) (kcell_ri (dn k.succ c) k)) $$ HR
  icases Hv with ⟨#HIv, #Hrv⟩
  iapply (wp_pair_at xs K c k hn hjk hS hR O fd W) $$ [Hs Hd HO HtS HtR]
  · isplitr; · iexact HIs
    isplitr; · iexact HIv
    isplitl [Hs]; · iexact Hs
    isplitl [Hd]; · iexact Hd
    isplitl [HO]; · iexact HO
    isplitl [HtS]; · iexact HtS
    isplitr; · iexact Hrs
    isplitl [HtR]; · iexact HtR
    iexact Hrv
  iintro ⟨Hc, HO⟩
  iapply Hk
  isplitl [Hc]; · iexact Hc
  iexists W; iexact HO

/-- The wait for the pair of the device `k + 1` places further: it lies in slot `k + 1`. -/
theorem wp_landed {sR : DmaSem sig} (hR : sR = recvQ k) {s₁ s₂ : Memref sig .tc .vmem S2x512 .f32} {h₁ : s₁.view.WordExact} {h₂ : s₂.view.WordExact}
    (hN : s₂.view.dmaCredit = N) {α : Type} {Q : α → sProp 𝕄} {p : PUnit → Prog (TpuEff nD τ sig (Elt F) Λ₀ .tc) α} :
    iprop(records xs K ∗ cred (tallyAt (recvCell c k) () N) ∗ owesSome c 0 ∗ atPos ER (recvCell c k) 0 ∅ 0)
      ⊢ iprop(((owesSome c 0 ∗ semVal (recvCell c k) 0 ∗ slotPts c k.succ.val k.succ.isLt fullShare (canon (pairOf xs (up k.succ c)))) -∗ wpc c (p ⟨⟩) Q)
          -∗ wpc c (.op (.waitDma2 sR s₁ s₂ h₁ h₂) p) Q) := by
  subst hR
  unfold owesSome
  iintro ⟨#HR, Hc, ⟨%W, HO⟩, Hat⟩ Hk
  ihave #Hb := (cell_at xs K (c, ri k) (kcell_ri c k)) $$ HR
  icases Hb with ⟨#HI, -⟩
  iapply (Rounds.wp_wait_rest_token Variants.none ER (sched xs) (c : Thread nD τ) none (κ := K (c, ri k)) (sm := .dma (recvQ k)) (k' := s₂.view.dmaCredit)
      (wpE_waitDma2_eq Variants.none (c : Thread nD τ) none Set.univ) (Set.mem_univ _) () (O := 0) (W := W) (R := 0) (m := 0) (T := ∅)
      (by rw [expect_recv, hN, Nat.zero_add])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_recv xs c k)) $$ Hpay
  imod (Rounds.cell_close ER (sched xs) (Set.mem_univ (K (c, ri k))) (fun h => h) (R := 0 + 1) (duties_later xs (recvCell c k))) $$ [Hat] with Hz
  · isplitr; · iexact HI
    iexact Hat
  iapply Hk
  isplitl [HO]; · iexists _; iexact HO
  isplitl [Hz]; · iexact Hz
  unfold recvPay; iexact Hp

/-- The wait for a transfer sent: the share of slot 0 that it read at comes back. -/
theorem wp_sent {sS : DmaSem sig} (hS : sS = sendQ k) {s₁ s₂ : Memref sig .tc .vmem S2x512 .f32} {h₁ : s₁.view.WordExact} {h₂ : s₂.view.WordExact}
    (hN : s₂.view.dmaCredit = N) {α : Type} {Q : α → sProp 𝕄} {p : PUnit → Prog (TpuEff nD τ sig (Elt F) Λ₀ .tc) α} :
    iprop(records xs K ∗ cred (tallyAt (sendCell c k) () N) ∗ owesSome c 0 ∗ atPos ER (sendCell c k) 0 ∅ 0)
      ⊢ iprop(((owesSome c 0 ∗ semVal (sendCell c k) 0 ∗ slotPts c 0 (by decide) (sh k) (canon (pairOf xs c))) -∗ wpc c (p ⟨⟩) Q)
          -∗ wpc c (.op (.waitDma2 sS s₁ s₂ h₁ h₂) p) Q) := by
  subst hS
  unfold owesSome
  iintro ⟨#HR, Hc, ⟨%W, HO⟩, Hat⟩ Hk
  ihave #Hb := (cell_at xs K (c, si k) (kcell_si c k)) $$ HR
  icases Hb with ⟨#HI, -⟩
  iapply (Rounds.wp_wait_rest_token Variants.none ER (sched xs) (c : Thread nD τ) none (κ := K (c, si k)) (sm := .dma (sendQ k)) (k' := s₂.view.dmaCredit)
      (wpE_waitDma2_eq Variants.none (c : Thread nD τ) none Set.univ) (Set.mem_univ _) () (O := 0) (W := W) (R := 0) (m := 0) (T := ∅)
      (by rw [expect_send, hN, Nat.zero_add])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_send xs c k)) $$ Hpay
  imod (Rounds.cell_close ER (sched xs) (Set.mem_univ (K (c, si k))) (fun h => h) (R := 0 + 1) (duties_later xs (sendCell c k))) $$ [Hat] with Hz
  · isplitr; · iexact HI
    iexact Hat
  iapply Hk
  isplitl [HO]; · iexists _; iexact HO
  isplitl [Hz]; · iexact Hz
  unfold sendPay; iexact Hp

end Steps

end Cert.Argmax

end
-- ==== Proof.Parts.lean ====
/-
# The program's other parts, run

Part 2 gives the three others their units and takes in groups 0 to 4; part 21 takes in the last groups and stores the value row of the
device's pair; part 22 stores the index row, waits for the three units and sends two of the three transfers; part 23 sends the third and
takes the first pair received; part 24 takes the other two. What each needs, returns and leaves is one theorem.
-/
module

public import proofs.«01_k».proof.Proof.Effects

@[expose] public section

noncomputable section

namespace Cert.Argmax

open Cert.KernelIdeal Cert.KernelIdeal.Gen
open Idealize.ShloMosaic hiding ix1 ix2 ix3 eq_ix1 eq_ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- From `P`, the program `p` of device `c` runs to its end, returns `v` and leaves `P'`. -/
def Runs (c : Dev nD) {α : Type} (P : sProp 𝕄) (p : Prog (TpuEff nD τ sig (Elt F) Λ₀ .tc) α) (v : α) (P' : sProp 𝕄) : Prop :=
  ∀ Q : α → sProp 𝕄, P ⊢ iprop((P' -∗ Q v) -∗ wpc c p Q)

/-- A program that runs so, at the head of another. -/
theorem Runs.step {c : Dev nD} {α β : Type} {P P' : sProp 𝕄} {p : Prog (TpuEff nD τ sig (Elt F) Λ₀ .tc) α} {v : α}
    (h : Runs c P p v P') (k : α → Prog (TpuEff nD τ sig (Elt F) Λ₀ .tc) β) (Q : β → sProp 𝕄) :
    P ⊢ iprop((P' -∗ wpc c (k v) Q) -∗ wpc c (p >>= k) Q) := by
  unfold wpc; rw [wp_bind]
  exact h fun a => wp frame (wpE (defs₀ (F := F)) Variants.none (c : Thread nD τ) none) Set.univ (k a) Q

abbrev oM : Memref sig .tc .vmem S2x512 .f32 := Memref.whole cc0_stg1_0

/-- The result's staging buffer of device `c`. -/
def outPts (c : Dev nD) (f : Vec F S2x512 .f32) : sProp 𝕄 := ((c : Thread nD τ).loc cc0_stg1_0) ↦{fullShare} f

/-! ## The payloads by Values.lean -/

theorem vals2 (x : Vec F S1024x512 .f32) :
    k0_pay11 (rows8 x 0) (rows8 x 1) (rows8 x 2) (rows8 x 3) = (scan x 3).2
      ∧ k0_pay13 (rows8 x 0) (rows8 x 1) (rows8 x 2) (rows8 x 3) (rows8 x 4) = exceeds x 3 (scan x 3)
      ∧ k0_pay14 (rows8 x 0) (rows8 x 1) (rows8 x 2) (rows8 x 3) (rows8 x 4) = (walkStep x 3 (scan x 3)).1
      ∧ (k0_pay15 : IVec S8x512 32) = broadcast S8x512 4#32 := by
  unfold_payloads
  dsimp only [scan, walkFrom, walkStep, exceeds, grp, Nat.reduceAdd]
  exact ⟨rfl, rfl, rfl, rfl⟩

theorem vals21 (x : Vec F S1024x512 .f32) (w : BitVec 32) :
    k0_pay411 (walkStep x 123 (scan x 123)).1 (rows8 x 125) (rows8 x 126) (rows8 x 127) = shapeCast S1x1x512 (colMax x) shapeCasts_S512_S1x1x512
      ∧ k0_pay409 (walkStep x 123 (scan x 123)).1 (rows8 x 125) (rows8 x 126) (rows8 x 127) = colMax x
      ∧ k0_pay410 w (scan x 123).2 (exceeds x 123 (scan x 123)) (walkStep x 123 (scan x 123)).1 (broadcast S8x512 124#32)
          (rows8 x 125) (rows8 x 126) (rows8 x 127) = colIdx w x := by
  have h : scan x 127 = walkFrom x 123 (scan x 123) 4 := scan_from x 123 4
  unfold colMax colIdx colRows colMax
  rw [h]
  generalize scan x 123 = st
  unfold_payloads
  dsimp only [walkFrom, walkStep, exceeds, grp, Nat.reduceAdd]
  exact ⟨rfl, rfl, rfl⟩

/-- The first pair received, against the device's own. -/
theorem vals23 {u w : Vec F S1x1x512 .f32} {p : Pair F} (q : Pair F) (hu : shapeCast S512 u shapeCasts_S1x1x512_S512 = p.1)
    (hw : shapeCast S512 w shapeCasts_S1x1x512_S512 = p.2) :
    k0_pay416 q.1 q.2 u w = (better p q).1 ∧ k0_pay417 q.1 q.2 u w = (better p q).2 := by
  unfold_payloads
  dsimp only [better, wins]
  rw [hu, hw]
  exact ⟨rfl, rfl⟩

/-- The other two pairs received, against the better so far. -/
theorem vals24 {u₁ w₁ u₂ w₂ : Vec F S1x1x512 .f32} {p₁ p₂ : Pair F} (q : Pair F)
    (hu₁ : shapeCast S512 u₁ shapeCasts_S1x1x512_S512 = p₁.1) (hw₁ : shapeCast S512 w₁ shapeCasts_S1x1x512_S512 = p₁.2)
    (hu₂ : shapeCast S512 u₂ shapeCasts_S1x1x512_S512 = p₂.1) (hw₂ : shapeCast S512 w₂ shapeCasts_S1x1x512_S512 = p₂.2) :
    k0_pay426 q.1 q.2 u₁ w₁ u₂ w₂ = (better p₂ (better p₁ q)).1 ∧ k0_pay427 q.1 q.2 u₁ w₁ u₂ w₂ = (better p₂ (better p₁ q)).2 := by
  unfold_payloads
  dsimp only [better, wins]
  rw [hu₁, hw₁, hu₂, hw₂]
  exact ⟨rfl, rfl⟩

/-- The scratch with a slot's first row stored over. -/
def valueRow {k : ℕ} (hk : k < 4) (f : Scr F) (v : FVec F S512 .f32) : Scr F :=
  (sM.access (row k 0 hk Nat.zero_lt_two)).write (Elt F) f (shapeCast S1x1x512 v shapeCasts_S512_S1x1x512) Finset.univ

/-! ## The four slots by their numbers -/

theorem lt0 : 0 < 4 := Nat.zero_lt_succ 3
theorem lt1 : 1 < 4 := (0 : Fin 3).succ.isLt
theorem lt2 : 2 < 4 := (1 : Fin 3).succ.isLt
theorem lt3 : 3 < 4 := (2 : Fin 3).succ.isLt

theorem slot_one (c : Dev nD) (q : PosShare TreeShare) (f : Scr F) :
    slotPts c (0 : Fin 3).succ.val (0 : Fin 3).succ.isLt q f = slotPts c 1 lt1 q f := rfl
theorem slot_two (c : Dev nD) (q : PosShare TreeShare) (f : Scr F) :
    slotPts c (1 : Fin 3).succ.val (1 : Fin 3).succ.isLt q f = slotPts c 2 lt2 q f := rfl
theorem slot_three (c : Dev nD) (q : PosShare TreeShare) (f : Scr F) :
    slotPts c (2 : Fin 3).succ.val (2 : Fin 3).succ.isLt q f = slotPts c 3 lt3 q f := rfl

theorem up_one (c : Dev nD) : up (0 : Fin 3).succ c = up 1 c := rfl
theorem up_two (c : Dev nD) : up (1 : Fin 3).succ c = up 2 c := rfl
theorem up_three (c : Dev nD) : up (2 : Fin 3).succ c = up 3 c := rfl

/-- What a wait for one of the transfers takes. -/
theorem credit_eq {j : ℕ} (hj : j < 4) : (slot j hj).view.dmaCredit = N := rfl

/-! ## Slot 0's three shares -/

theorem share_out (c : Dev nD) (f : Scr F) :
    slotPts c 0 lt0 fullShare f ⊢ iprop(slotPts c 0 lt0 (sh 1) f ∗ slotPts c 0 lt0 (sh 2) f ∗ slotPts c 0 lt0 (sh 0) f) := by
  unfold slotPts sh
  refine (pointsTo_share (PosShare.mem_left_op_right fullShare)).1.trans (sep_mono_right ?_)
  exact (pointsTo_share (PosShare.mem_left_op_right fullShare.right)).1

theorem share_back (c : Dev nD) (f : Scr F) :
    iprop(slotPts c 0 lt0 (sh 1) f ∗ slotPts c 0 lt0 (sh 2) f ∗ slotPts c 0 lt0 (sh 0) f) ⊢ slotPts c 0 lt0 fullShare f := by
  unfold slotPts sh
  refine (sep_mono_right ?_).trans (pointsTo_share (PosShare.mem_left_op_right fullShare)).2
  exact (pointsTo_share (PosShare.mem_left_op_right fullShare.right)).2

/-! ## Loads and stores of a slot's row -/

theorem wp_row_load (c : Dev nD) {k r : ℕ} (hk : k < 4) (hr : r < 2) {q : PosShare TreeShare} {f : Scr F} {α : Type} {Q : α → sProp 𝕄}
    {hl : sM.view.LoadsAt (row k r hk hr).toLoadRect} {p : Vec F S1x1x512 .f32 → Prog (TpuEff nD τ sig (Elt F) Λ₀ .tc) α} :
    slotPts c k hk q f ⊢ iprop((slotPts c k hk q f -∗ wpc c (p (sM.view.readAt (Elt F) (row k r hk hr).toLoadRect f)) Q)
      -∗ wpc c (.op (.load sM (row k r hk hr).toLoadRect hl) p) Q) := by
  unfold slotPts wpc
  exact wp_load Variants.none (c : Thread nD τ) none Set.univ (m := sM) (row_load hk hr)

theorem slot_open (c : Dev nD) {k : ℕ} (hk : k < 4) (q : PosShare TreeShare) (f : Scr F) :
    slotPts c k hk q f ⊢ ((slot k hk).view.loc (c : Thread nD τ) ↦[(slot k hk).view.set]{q} f) := Entails.refl _

theorem slot_shut (c : Dev nD) {k : ℕ} (hk : k < 4) (f : Scr F) (v : FVec F S512 .f32) :
    ((sM.access (row k 0 hk Nat.zero_lt_two)).loc (c : Thread nD τ) ↦[(slot k hk).view.set]{fullShare}
      ((sM.access (row k 0 hk Nat.zero_lt_two)).write (Elt F) f (shapeCast S1x1x512 v shapeCasts_S512_S1x1x512) Finset.univ))
      ⊢ slotPts c k hk fullShare (valueRow hk f v) := Entails.refl _

theorem wp_x_load (c : Dev nD) {x : Vec F S1024x512 .f32} {r : LoadRect S1024x512} {α : Type} {Q : α → sProp 𝕄}
    {hl : xM.view.LoadsAt r} {p : (r.shape.Idx → Elt F .f32) → Prog (TpuEff nD τ sig (Elt F) Λ₀ .tc) α} :
    xPts c x ⊢ iprop((xPts c x -∗ wpc c (p (xM.view.readAt (Elt F) r x)) Q) -∗ wpc c (.op (.load xM r hl) p) Q) := by
  unfold xPts wpc
  exact wp_load Variants.none (c : Thread nD τ) none Set.univ (m := xM) (Finset.subset_univ _)

theorem wp_out_load (c : Dev nD) {f : Vec F S2x512 .f32} {r : LoadRect S2x512} {α : Type} {Q : α → sProp 𝕄}
    {hl : oM.view.LoadsAt r} {p : (r.shape.Idx → Elt F .f32) → Prog (TpuEff nD τ sig (Elt F) Λ₀ .tc) α} :
    outPts c f ⊢ iprop((outPts c f -∗ wpc c (p (oM.view.readAt (Elt F) r f)) Q) -∗ wpc c (.op (.load oM r hl) p) Q) := by
  unfold outPts wpc
  exact wp_load Variants.none (c : Thread nD τ) none Set.univ (m := oM) (Finset.subset_univ _)

/-! ## The devices addressed -/

theorem dev1_eq (c : Dev nD) : (⟨k0_dev1 c, k0_dev1_lt c⟩ : Dev nD) = up (0 : Fin 3).succ c := by revert c; decide +kernel
theorem dev2_eq (c : Dev nD) : (⟨k0_dev2 c, k0_dev2_lt c⟩ : Dev nD) = up (1 : Fin 3).succ c := by revert c; decide +kernel
theorem dev3_eq (c : Dev nD) : (⟨k0_dev3 c, k0_dev3_lt c⟩ : Dev nD) = up (2 : Fin 3).succ c := by revert c; decide +kernel
theorem dev4_eq (c : Dev nD) : (⟨k0_dev4 c, k0_dev4_lt c⟩ : Dev nD) = dn (1 : Fin 3).succ c := by revert c; decide +kernel
theorem dev5_eq (c : Dev nD) : (⟨k0_dev5 c, k0_dev5_lt c⟩ : Dev nD) = dn (2 : Fin 3).succ c := by revert c; decide +kernel
theorem dev6_eq (c : Dev nD) : (⟨k0_dev6 c, k0_dev6_lt c⟩ : Dev nD) = dn (0 : Fin 3).succ c := by revert c; decide +kernel

/-- The number of the device `k` further round the ring, by the program's words. -/
def ringWord (w k : BitVec 32) : BitVec 32 :=
  let m : BitVec 32 := Scalar.select (Scalar.cmpi .eq 4#32 0#32) 1#32 4#32
  let r : BitVec 32 := Scalar.remsi (Scalar.addi w k) m
  Scalar.select (Scalar.andi (Scalar.xori (Scalar.cmpi .slt r 0#32) (Scalar.cmpi .slt m 0#32)) (Scalar.cmpi .ne r 0#32)) (Scalar.addi r m) r

section Parts

variable (xs : Dev nD → Vec F S1024x512 .f32) (K : Dev nD × Fin 7 → ℕ) (c : Dev nD)
  (hx : (xM : Memref sig .tc .vmem S1024x512 .f32).IsWhole) (ho : (oM : Memref sig .tc .vmem S2x512 .f32).IsWhole)
  (hs : (sM : Memref sig .tc .vmem S4x2x512 .f32).IsWhole)

/-- Part 1 computes words from the device's number. -/
theorem part1_run (x : Vec F S1024x512 .f32) : Loads c x (k0_part1 (F := F) xM hx oM ho sM hs cc0_scratch1 cc0_scratch2)
    ⟨c, devWord c, ringWord (devWord c) 1#32, ringWord (devWord c) 2#32, ringWord (devWord c) 3#32⟩ := by
  intro Q
  unfold devWord ringWord
  dsimp only
  rw [k0_part1_eq_skeleton]; unfold k0_part1_skel
  simp only [Prog.lift, Prog.bind_op, Prog.bind_ret, Prog.pure_eq_ret, wpc, wp_deviceId]
  rw [wp_ret]
  iintro ⟨Hx, Hk⟩
  imodintro
  iapply Hk; iexact Hx

/-- Part 2: a unit and a slot to each of the three others; groups 0 to 4. -/
theorem part2_run (a b d : BitVec 32) (x : Vec F S1024x512 .f32) :
    Runs c iprop(records xs K ∗ xPts c x ∗ owesSome c (O₀ c)
        ∗ dutyTok ER (barCell (up (0 : Fin 3).succ c)) 0 0 ∗ dutyTok ER (barCell (up (1 : Fin 3).succ c)) 0 1 ∗ dutyTok ER (barCell (up (2 : Fin 3).succ c)) 0 2
        ∗ (∃ f, slotPts c (0 : Fin 3).succ.val (0 : Fin 3).succ.isLt fullShare f) ∗ (∃ f, slotPts c (1 : Fin 3).succ.val (1 : Fin 3).succ.isLt fullShare f)
        ∗ (∃ f, slotPts c (2 : Fin 3).succ.val (2 : Fin 3).succ.isLt fullShare f))
      (k0_part2 (F := F) xM hx oM ho sM hs cc0_scratch1 cc0_scratch2 c a b d)
      ⟨SemArray.scalar (sig.barrier 0 rfl), (scan x 3).2, exceeds x 3 (scan x 3), (walkStep x 3 (scan x 3)).1, broadcast S8x512 4#32⟩
      iprop(xPts c x ∗ owesSome c (owed₃ c)) := fun Q => by
  rw [k0_part2_eq_skeleton]; unfold k0_part2_skel
  simp only [semSignalWord, semWaitWord, Prog.lift, Prog.bind_op, Prog.bind_ret, Prog.pure_eq_ret]
  iintro ⟨#HR, Hx, HO, Ht0, Ht1, Ht2, Hs0, Hs1, Hs2⟩ Hk
  unfold O₀
  iapply (wp_unit xs K c 0 (dev1_eq c) rfl (owed₃ c + oweUnit c 2 + oweUnit c 1)) $$ [HO Ht0 Hs0]
  · isplitr; · iexact HR
    isplitl [HO]; · iexact HO
    isplitl [Ht0] <;> iassumption
  iintro HO
  iapply (wp_unit xs K c 1 (dev2_eq c) rfl (owed₃ c + oweUnit c 2)) $$ [HO Ht1 Hs1]
  · isplitr; · iexact HR
    isplitl [HO]; · iexact HO
    isplitl [Ht1] <;> iassumption
  iintro HO
  iapply (wp_unit xs K c 2 (dev3_eq c) rfl (owed₃ c)) $$ [HO Ht2 Hs2]
  · isplitr; · iexact HR
    isplitl [HO]; · iexact HO
    isplitl [Ht2] <;> iassumption
  iintro HO
  iapply (wp_x_load c) $$ Hx; iintro Hx
  iapply (wp_x_load c) $$ Hx; iintro Hx
  iapply (wp_x_load c) $$ Hx; iintro Hx
  iapply (wp_x_load c) $$ Hx; iintro Hx
  iapply (wp_x_load c) $$ Hx; iintro Hx
  rw [read_rows8 x rfl, read_rows8 x rfl, read_rows8 x rfl, read_rows8 x rfl, read_rows8 x rfl]
  obtain ⟨h1, h2, h3, h4⟩ := vals2 x
  unfold wpc
  rw [wp_ret, h1, h2, h3, h4]
  imodintro
  iapply Hk
  isplitl [Hx]; · iexact Hx
  iexact HO

/-- Part 21: the last groups; the value row of slot 0 stored. -/
theorem part21_run :
    Runs c iprop(xPts c (xs c) ∗ ∃ f, slotPts c 0 lt0 fullShare f)
      (k0_part21 (F := F) xM hx oM ho sM hs cc0_scratch1 cc0_scratch2 (devWord c) (scan (xs c) 123).2 (exceeds (xs c) 123 (scan (xs c) 123))
        (walkStep (xs c) 123 (scan (xs c) 123)).1 (broadcast S8x512 124#32))
      ⟨(pairOf xs c).1, (pairOf xs c).2⟩
      iprop(xPts c (xs c) ∗ ∃ f, slotPts c 0 lt0 fullShare (valueRow lt0 f (pairOf xs c).1)) := fun Q => by
  rw [k0_part21_eq_skeleton]; unfold k0_part21_skel
  simp only [Prog.lift, Prog.bind_op, Prog.bind_ret, Prog.pure_eq_ret]
  iintro ⟨Hx, ⟨%f, Hs⟩⟩ Hk
  iapply (wp_x_load c) $$ Hx; iintro Hx
  iapply (wp_x_load c) $$ Hx; iintro Hx
  iapply (wp_x_load c) $$ Hx; iintro Hx
  rw [read_rows8 (xs c) rfl, read_rows8 (xs c) rfl, read_rows8 (xs c) rfl]
  obtain ⟨h1, h2, h3⟩ := vals21 (xs c) (devWord c)
  iapply (wp_row_load c (k := 0) (r := 0) lt0 Nat.zero_lt_two) $$ Hs; iintro Hs
  ihave Hs := (slot_open c lt0 fullShare f) $$ Hs
  unfold wpc
  iapply (wp_store Variants.none (c : Thread nD τ) none Set.univ (m := sM) (Mk := Finset.univ) (row_store (k := 0) (r := 0) lt0 Nat.zero_lt_two)) $$ Hs; iintro Hs
  rw [h1]
  ihave Hs := (slot_shut c lt0 f (colMax (xs c))) $$ Hs
  iapply (wp_row_load c (k := 0) (r := 1) lt0 Nat.one_lt_two) $$ Hs; iintro Hs
  unfold wpc pairOf
  rw [wp_ret, h2, h3]
  imodintro
  iapply Hk
  isplitl [Hx]; · iexact Hx
  iexists f; iexact Hs

/-- Part 22: the index row stored, the three units taken, slot 0's pair sent two further and then three. -/
theorem part22_run (a b d : BitVec 32) :
    Runs c iprop(records xs K ∗ levAts L lv ∗ (∃ f, slotPts c 0 lt0 fullShare (valueRow lt0 f (pairOf xs c).1))
        ∗ cred (tallyAt (barCell c) () 3) ∗ owesSome c (owed₃ c) ∗ atPos ER (barCell c) 0 ∅ 0
        ∗ (dutyTok ER (sendCell c 1) 0 0 ∗ dutyTok ER (recvCell (dn (1 : Fin 3).succ c) 1) 0 0)
        ∗ (dutyTok ER (sendCell c 2) 0 0 ∗ dutyTok ER (recvCell (dn (2 : Fin 3).succ c) 2) 0 0))
      (k0_part22 (F := F) xM hx oM ho sM hs cc0_scratch1 cc0_scratch2 c a b d (SemArray.scalar (sig.barrier 0 rfl)) (pairOf xs c).2)
      ⟨⟩
      iprop(owesSome c (oweSend c 0) ∗ semVal (barCell c) 0 ∗ cred (tallyAt (sendCell c 1) () N) ∗ cred (tallyAt (sendCell c 2) () N)
        ∗ slotPts c 0 lt0 (sh 0) (canon (pairOf xs c)) ∗ (∃ f, slotPts (dn (0 : Fin 3).succ c) (0 : Fin 3).succ.val (0 : Fin 3).succ.isLt fullShare f)) := fun Q => by
  rw [k0_part22_eq_skeleton]; unfold k0_part22_skel
  simp only [semSignalWord, semWaitWord, Prog.lift, Prog.bind_op, Prog.bind_ret, Prog.pure_eq_ret]
  have hst : ∀ f : Scr F, ((sM.access (row 0 1 lt0 Nat.one_lt_two)).loc (c : Thread nD τ) ↦[(slot 0 lt0).view.set]{fullShare} ((sM.access (row 0 1 lt0 Nat.one_lt_two)).write (Elt F) (valueRow lt0 f (pairOf xs c).1)
      (k0_pay412 (pairOf xs c).2) Finset.univ))
      ⊢ iprop(slotPts c 0 lt0 (sh 1) (canon (pairOf xs c)) ∗ slotPts c 0 lt0 (sh 2) (canon (pairOf xs c)) ∗ slotPts c 0 lt0 (sh 0) (canon (pairOf xs c))) := fun f =>
    (Entails.of_eq (slotPts_canon c lt0 fullShare (holds_stored lt0 (pairOf xs c) f))).trans (share_out c _)
  iintro ⟨#HR, #HL, ⟨%f, Hs⟩, Hc, HO, Hp, ⟨Hts1, Htr1⟩, ⟨Hts2, Htr2⟩⟩ Hk
  ihave Hs := (slot_open c lt0 fullShare (valueRow lt0 f (pairOf xs c).1)) $$ Hs
  unfold wpc
  iapply (wp_store Variants.none (c : Thread nD τ) none Set.univ (m := sM) (Mk := Finset.univ) (row_store (k := 0) (r := 1) lt0 Nat.one_lt_two)) $$ Hs; iintro Hs
  ihave Hs := (hst f) $$ Hs
  icases Hs with ⟨Hs1, Hs2, Hs0⟩
  iapply (wp_units xs K c rfl) $$ [Hc HO Hp]
  · isplitr; · iexact HR
    isplitr; · iexact HL
    isplitl [Hc]; · iexact Hc
    isplitl [HO] <;> iassumption
  unfold barPay
  iintro ⟨HO, Hsv, ⟨Hd0, Hr0⟩, ⟨Hd1, Hr1⟩, ⟨Hd2, Hr2⟩⟩
  iclear Hr0 Hr1 Hr2
  unfold owed₃
  iapply (wp_pair xs K c 1 (dev4_eq c) (hj := lt2) rfl rfl rfl (oweSend c 0 + oweSend c 2)) $$ [Hs1 Hd1 HO Hts1 Htr1]
  · isplitr; · iexact HR
    isplitl [Hs1]; · iexact Hs1
    isplitl [Hd1]; · iexact Hd1
    isplitl [HO]; · iexact HO
    isplitl [Hts1] <;> iassumption
  iintro ⟨Hc1, HO⟩
  iapply (wp_pair xs K c 2 (dev5_eq c) (hj := lt3) rfl rfl rfl (oweSend c 0)) $$ [Hs2 Hd2 HO Hts2 Htr2]
  · isplitr; · iexact HR
    isplitl [Hs2]; · iexact Hs2
    isplitl [Hd2]; · iexact Hd2
    isplitl [HO]; · iexact HO
    isplitl [Hts2] <;> iassumption
  iintro ⟨Hc2, HO⟩
  unfold wpc
  rw [wp_ret]
  imodintro
  iapply Hk
  isplitl [HO]; · iexact HO
  isplitl [Hsv]; · iexact Hsv
  isplitl [Hc1]; · iexact Hc1
  isplitl [Hc2]; · iexact Hc2
  isplitl [Hs0]; · iexact Hs0
  iexact Hd0

/-- Part 23: slot 0's pair sent one further; the pair from three further taken, against the device's own. -/
theorem part23_run (a b : BitVec 32) :
    Runs c iprop(records xs K ∗ slotPts c 0 lt0 (sh 0) (canon (pairOf xs c))
        ∗ (∃ f, slotPts (dn (0 : Fin 3).succ c) (0 : Fin 3).succ.val (0 : Fin 3).succ.isLt fullShare f)
        ∗ owesSome c (oweSend c 0) ∗ (dutyTok ER (sendCell c 0) 0 0 ∗ dutyTok ER (recvCell (dn (0 : Fin 3).succ c) 0) 0 0)
        ∗ cred (tallyAt (recvCell c 2) () N) ∗ atPos ER (recvCell c 2) 0 ∅ 0)
      (k0_part23 (F := F) xM hx oM ho sM hs cc0_scratch1 cc0_scratch2 c a b (pairOf xs c).1 (pairOf xs c).2)
      ⟨(better (pairOf xs (up 3 c)) (pairOf xs c)).1, (better (pairOf xs (up 3 c)) (pairOf xs c)).2⟩
      iprop(owesSome c 0 ∗ cred (tallyAt (sendCell c 0) () N) ∗ semVal (recvCell c 2) 0 ∗ (∃ f, slotPts c 3 lt3 fullShare f)) := fun Q => by
  rw [k0_part23_eq_skeleton]; unfold k0_part23_skel
  simp only [Prog.lift, Prog.bind_op, Prog.bind_ret, Prog.pure_eq_ret]
  iintro ⟨#HR, Hs, Hd, HO, ⟨Hts, Htr⟩, Hc, Hp⟩ Hk
  rw [← zero_add (oweSend c 0)]
  iapply (wp_pair xs K c 0 (dev6_eq c) (hj := lt1) rfl rfl rfl 0) $$ [Hs Hd HO Hts Htr]
  · isplitr; · iexact HR
    isplitl [Hs]; · iexact Hs
    isplitl [Hd]; · iexact Hd
    isplitl [HO]; · iexact HO
    isplitl [Hts] <;> iassumption
  iintro ⟨Hcs, HO⟩
  iapply (wp_landed xs K c 2 rfl (credit_eq lt3)) $$ [HO Hc Hp]
  · isplitr; · iexact HR
    isplitl [Hc]; · iexact Hc
    isplitl [HO] <;> iassumption
  rw [slot_three, up_three]
  iintro ⟨HO, Hsv, Hs⟩
  iapply (wp_row_load c (k := 3) (r := 0) lt3 Nat.zero_lt_two) $$ Hs; iintro Hs
  iapply (wp_row_load c (k := 3) (r := 1) lt3 Nat.one_lt_two) $$ Hs; iintro Hs
  obtain ⟨h1, h2⟩ := vals23 (pairOf xs c) (read_fst lt3 (holds_canon lt3 (pairOf xs (up 3 c)))) (read_snd lt3 (holds_canon lt3 (pairOf xs (up 3 c))))
  unfold wpc
  rw [wp_ret]
  imodintro
  ihave Hk := (Entails.of_eq (congrArg₂ (fun u w => iprop((owesSome c 0 ∗ cred (tallyAt (sendCell c 0) () N) ∗ semVal (recvCell c 2) 0 ∗ (∃ f, slotPts c 3 lt3 fullShare f)) -∗ Q ⟨u, w⟩)) h1.symm h2.symm)) $$ Hk
  iapply Hk
  isplitl [HO]; · iexact HO
  isplitl [Hcs]; · iexact Hcs
  isplitl [Hsv]; · iexact Hsv
  iexists _; iexact Hs

/-- Part 24: the pairs from one and from two further taken, each against the better so far. -/
theorem part24_run (a : BitVec 32) (p : Pair F) (f : Vec F S2x512 .f32) :
    Runs c iprop(records xs K ∗ owesSome c 0 ∗ (cred (tallyAt (recvCell c 0) () N) ∗ atPos ER (recvCell c 0) 0 ∅ 0)
        ∗ (cred (tallyAt (recvCell c 1) () N) ∗ atPos ER (recvCell c 1) 0 ∅ 0) ∗ outPts c f)
      (k0_part24 (F := F) xM hx oM ho sM hs cc0_scratch1 cc0_scratch2 a p.1 p.2)
      ⟨(better (pairOf xs (up 2 c)) (better (pairOf xs (up 1 c)) p)).1, (better (pairOf xs (up 2 c)) (better (pairOf xs (up 1 c)) p)).2⟩
      iprop(owesSome c 0 ∗ semVal (recvCell c 0) 0 ∗ semVal (recvCell c 1) 0 ∗ (∃ f, slotPts c 1 lt1 fullShare f) ∗ (∃ f, slotPts c 2 lt2 fullShare f)
        ∗ outPts c f) := fun Q => by
  rw [k0_part24_eq_skeleton]; unfold k0_part24_skel
  simp only [Prog.lift, Prog.bind_op, Prog.bind_ret, Prog.pure_eq_ret]
  iintro ⟨#HR, HO, ⟨Hc0, Hp0⟩, ⟨Hc1, Hp1⟩, Hf⟩ Hk
  iapply (wp_landed xs K c 0 rfl (credit_eq lt1)) $$ [HO Hc0 Hp0]
  · isplitr; · iexact HR
    isplitl [Hc0]; · iexact Hc0
    isplitl [HO] <;> iassumption
  rw [slot_one, up_one]
  iintro ⟨HO, Hv0, Hs1⟩
  iapply (wp_row_load c (k := 1) (r := 0) lt1 Nat.zero_lt_two) $$ Hs1; iintro Hs1
  iapply (wp_row_load c (k := 1) (r := 1) lt1 Nat.one_lt_two) $$ Hs1; iintro Hs1
  iapply (wp_landed xs K c 1 rfl (credit_eq lt2)) $$ [HO Hc1 Hp1]
  · isplitr; · iexact HR
    isplitl [Hc1]; · iexact Hc1
    isplitl [HO] <;> iassumption
  rw [slot_two, up_two]
  iintro ⟨HO, Hv1, Hs2⟩
  iapply (wp_row_load c (k := 2) (r := 0) lt2 Nat.zero_lt_two) $$ Hs2; iintro Hs2
  iapply (wp_row_load c (k := 2) (r := 1) lt2 Nat.one_lt_two) $$ Hs2; iintro Hs2
  iapply (wp_out_load c) $$ Hf; iintro Hf
  obtain ⟨h1, h2⟩ := vals24 p (read_fst lt1 (holds_canon lt1 (pairOf xs (up 1 c)))) (read_snd lt1 (holds_canon lt1 (pairOf xs (up 1 c))))
    (read_fst lt2 (holds_canon lt2 (pairOf xs (up 2 c)))) (read_snd lt2 (holds_canon lt2 (pairOf xs (up 2 c))))
  unfold wpc
  rw [wp_ret]
  imodintro
  ihave Hk := (Entails.of_eq (congrArg₂ (fun u w => iprop((owesSome c 0 ∗ semVal (recvCell c 0) 0 ∗ semVal (recvCell c 1) 0 ∗ (∃ f, slotPts c 1 lt1 fullShare f) ∗ (∃ f, slotPts c 2 lt2 fullShare f) ∗ outPts c f) -∗ Q ⟨u, w⟩)) h1.symm h2.symm)) $$ Hk
  iapply Hk
  isplitl [HO]; · iexact HO
  isplitl [Hv0]; · iexact Hv0
  isplitl [Hv1]; · iexact Hv1
  isplitl [Hs1]; · iexists _; iexact Hs1
  isplitl [Hs2]; · iexists _; iexact Hs2
  iexact Hf

end Parts

end Cert.Argmax

end
-- ==== Proof.Body.lean ====
/-
# A device's whole run

The parts one after the other: from the scratch's four slots, the cells' tokens and what the device owes, the body stores the best of the
four devices' pairs, gets slot 0's three shares back and leaves every semaphore at zero.
-/
module

public import proofs.«01_k».proof.Proof.Parts

@[expose] public section

noncomputable section

namespace Cert.Argmax

open Cert.KernelIdeal Cert.KernelIdeal.Gen
open Idealize.ShloMosaic hiding ix1 ix2 ix3 eq_ix1 eq_ix2 eq_ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The result's two rows -/

theorem orow_inb {r : ℕ} (hr : r < 2) : ∀ a, (![r, 0] : Fin 2 → ℕ) a + S1x512.size a ≤ S2x512.size a := by
  intro a; fin_cases a
  · show r + 1 ≤ 2; omega
  · show 0 + 512 ≤ 512; omega

/-- Row `r` of the result, as the program's stores name it. -/
abbrev orow (r : ℕ) (hr : r < 2) : Rect S2x512 := Rect.unit (s := S2x512) ![r, 0] S1x512.size (orow_inb hr)

theorem orow_emb {r : ℕ} (hr : r < 2) (u : Fin 1) (j : Fin 512) : (oM.access (orow r hr)).emb (ix2 u j) = (ix2 (⟨r, hr⟩ : Fin 2) j : S2x512.Idx) := by
  refine funext fun a => Fin.ext ?_
  fin_cases a
  · show r + 1 * u.val = r; omega
  · show 0 + 1 * j.val = j.val; omega

theorem orow_not_mem (j : Fin 512) : (ix2 (0 : Fin 2) j : S2x512.Idx) ∉ (oM.access (orow 1 Nat.one_lt_two)).setOn Finset.univ := by
  rw [View.setOn_univ, View.set_slice_whole, Rect.mem_set_unit]
  intro h
  have h0 := (h 0).1
  exact absurd h0 (by show ¬ 1 ≤ 0; decide)

/-- The two rows stored one after the other are the whole result. -/
theorem out_stored (p : FVec F S512 .f32 × FVec F S512 .f32) (f : Vec F S2x512 .f32) :
    (oM.access (orow 1 Nat.one_lt_two)).write (Elt F)
      ((oM.access (orow 0 Nat.zero_lt_two)).write (Elt F) f (shapeCast S1x512 p.1 shapeCasts_S512_S1x512) Finset.univ)
      (shapeCast S1x512 p.2 shapeCasts_S512_S1x512) Finset.univ = outRows p := by
  have cast : ∀ (v : FVec F S512 .f32) (j : Fin 512), shapeCast S1x512 v shapeCasts_S512_S1x512 (ix2 (0 : Fin 1) j) = v (ix1 j) := fun v j =>
    shapeCast_apply _ _ _ (ix1 j) (by rw [Shape.rowMajor_val_two, Shape.rowMajor_val_one]; show j.val = 0 * 512 + j.val; omega)
  refine funext fun (i : S2x512.Idx) => ?_
  obtain ⟨r, j, rfl⟩ : ∃ (r : Fin 2) (j : Fin 512), i = ix2 r j := ⟨i 0, i 1, eq_ix2 i⟩
  obtain rfl | rfl : r = 0 ∨ r = 1 := by revert r; decide
  · rw [View.write_of_not_mem _ _ _ (orow_not_mem j)]
    refine (congrArg _ (orow_emb Nat.zero_lt_two 0 j).symm).trans ?_
    refine (View.write_emb_of_mem _ _ (Finset.mem_univ _)).trans ?_
    exact cast p.1 j
  · refine (congrArg _ (orow_emb Nat.one_lt_two 0 j).symm).trans ?_
    refine (View.write_emb_of_mem _ _ (Finset.mem_univ _)).trans ?_
    exact cast p.2 j

/-! ## The whole run -/

/-- The four slots, whatever they hold. -/
def slots (c : Dev nD) : sProp 𝕄 :=
  iprop((∃ f, slotPts c 0 lt0 fullShare f) ∗ (∃ f, slotPts c (0 : Fin 3).succ.val (0 : Fin 3).succ.isLt fullShare f)
    ∗ (∃ f, slotPts c (1 : Fin 3).succ.val (1 : Fin 3).succ.isLt fullShare f) ∗ (∃ f, slotPts c (2 : Fin 3).succ.val (2 : Fin 3).succ.isLt fullShare f))

/-- The tokens a device's transfers into slot `k + 1` run on. -/
def pairToks (c : Dev nD) (k : Fin 3) : sProp 𝕄 := iprop(dutyTok ER (sendCell c k) 0 0 ∗ dutyTok ER (recvCell (dn k.succ c) k) 0 0)

/-- What waiting for a transfer into slot `k + 1` takes. -/
def landing (c : Dev nD) (k : Fin 3) : sProp 𝕄 := iprop(cred (tallyAt (recvCell c k) () N) ∗ atPos ER (recvCell c k) 0 ∅ 0)

section Run

variable (xs : Dev nD → Vec F S1024x512 .f32) (K : Dev nD × Fin 7 → ℕ) (c : Dev nD)
  (hx : (xM : Memref sig .tc .vmem S1024x512 .f32).IsWhole) (ho : (oM : Memref sig .tc .vmem S2x512 .f32).IsWhole)
  (hs : (sM : Memref sig .tc .vmem S4x2x512 .f32).IsWhole)

theorem part25_run (f : Vec F S2x512 .f32) :
    Runs c iprop(records xs K ∗ levAts L lv ∗ xPts c (xs c) ∗ outPts c f ∗ slots c ∗ owesSome c (O₀ c)
        ∗ (dutyTok ER (barCell (up (0 : Fin 3).succ c)) 0 0 ∗ dutyTok ER (barCell (up (1 : Fin 3).succ c)) 0 1 ∗ dutyTok ER (barCell (up (2 : Fin 3).succ c)) 0 2)
        ∗ (cred (tallyAt (barCell c) () 3) ∗ atPos ER (barCell c) 0 ∅ 0) ∗ (pairToks c 0 ∗ pairToks c 1 ∗ pairToks c 2)
        ∗ (landing c 0 ∗ landing c 1 ∗ landing c 2) ∗ atPos ER (sendCell c 1) 0 ∅ 0)
      (k0_part25 (F := F) xM hx oM ho sM hs cc0_scratch1 cc0_scratch2) ⟨⟩
      iprop(xPts c (xs c) ∗ outPts c (outRows (final xs c)) ∗ owesSome c 0 ∗ semVal (barCell c) 0
        ∗ (semVal (recvCell c 0) 0 ∗ semVal (recvCell c 1) 0 ∗ semVal (recvCell c 2) 0) ∗ semVal (sendCell c 1) 0
        ∗ (slotPts c 0 lt0 (sh 1) (canon (pairOf xs c)) ∗ (∃ f, slotPts c 1 lt1 fullShare f) ∗ (∃ f, slotPts c 2 lt2 fullShare f) ∗ (∃ f, slotPts c 3 lt3 fullShare f))
        ∗ cred (tallyAt (sendCell c 0) () N) ∗ cred (tallyAt (sendCell c 2) () N)) := fun Q => by
  unfold slots pairToks landing
  generalize hxe : xs c = x
  have P := parts (F := F) c x hx oM ho sM hs cc0_scratch1 cc0_scratch2
  have e : ∀ n k, walkFrom x n (scan x n) k = scan x (n + k) := fun n k => (scan_from x n k).symm
  rw [k0_part25_eq_skeleton]; unfold k0_part25_skel
  iintro ⟨#HR, #HL, Hx, Hf, ⟨S0, S1, S2, S3⟩, HO, ⟨U0, U1, U2⟩, ⟨Hcb, Hpb⟩, ⟨T0, T1, T2⟩, ⟨⟨C0, P0⟩, ⟨C1, P1⟩, ⟨C2, P2⟩⟩, A1⟩ Hk
  iapply ((part1_run c hx ho hs x).step _ Q) $$ Hx; iintro Hx; dsimp only
  iapply ((part2_run xs K c hx ho hs _ _ _ x).step _ Q) $$ [Hx HO U0 U1 U2 S1 S2 S3]
  · isplitr; · iexact HR
    isplitl [Hx]; · iexact Hx
    isplitl [HO]; · iexact HO
    isplitl [U0]; · iexact U0
    isplitl [U1]; · iexact U1
    isplitl [U2]; · iexact U2
    isplitl [S1]; · iexact S1
    isplitl [S2] <;> iassumption
  iintro ⟨Hx, HO⟩; dsimp only
  iapply (((P (scan x 3)).1).step _ Q) $$ Hx; iintro Hx; dsimp only [atMask, atRest, atBcast]; rw [e]
  iapply (((P (scan x 10)).2.1).step _ Q) $$ Hx; iintro Hx; dsimp only [atMask, atRest, atBcast]; rw [e]
  iapply (((P (scan x 17)).2.2.1).step _ Q) $$ Hx; iintro Hx; dsimp only [atMask, atRest, atBcast]; rw [e]
  iapply (((P (scan x 23)).2.2.2.1).step _ Q) $$ Hx; iintro Hx; dsimp only [atMask, atRest, atBcast]; rw [e]
  iapply (((P (scan x 30)).2.2.2.2.1).step _ Q) $$ Hx; iintro Hx; dsimp only [atMask, atRest, atBcast]; rw [e]
  iapply (((P (scan x 37)).2.2.2.2.2.1).step _ Q) $$ Hx; iintro Hx; dsimp only [atMask, atRest, atBcast]; rw [e]
  iapply (((P (scan x 43)).2.2.2.2.2.2.1).step _ Q) $$ Hx; iintro Hx; dsimp only [atMask, atRest, atBcast]; rw [e]
  iapply (((P (scan x 50)).2.2.2.2.2.2.2.1).step _ Q) $$ Hx; iintro Hx; dsimp only [atMask, atRest, atBcast]; rw [e]
  iapply (((P (scan x 57)).2.2.2.2.2.2.2.2.1).step _ Q) $$ Hx; iintro Hx; dsimp only [atMask, atRest, atBcast]; rw [e]
  iapply (((P (scan x 63)).2.2.2.2.2.2.2.2.2.1).step _ Q) $$ Hx; iintro Hx; dsimp only [atMask, atRest, atBcast]; rw [e]
  iapply (((P (scan x 70)).2.2.2.2.2.2.2.2.2.2.1).step _ Q) $$ Hx; iintro Hx; dsimp only [atMask, atRest, atBcast]; rw [e]
  iapply (((P (scan x 77)).2.2.2.2.2.2.2.2.2.2.2.1).step _ Q) $$ Hx; iintro Hx; dsimp only [atMask, atRest, atBcast]; rw [e]
  iapply (((P (scan x 83)).2.2.2.2.2.2.2.2.2.2.2.2.1).step _ Q) $$ Hx; iintro Hx; dsimp only [atMask, atRest, atBcast]; rw [e]
  iapply (((P (scan x 90)).2.2.2.2.2.2.2.2.2.2.2.2.2.1).step _ Q) $$ Hx; iintro Hx; dsimp only [atMask, atRest, atBcast]; rw [e]
  iapply (((P (scan x 97)).2.2.2.2.2.2.2.2.2.2.2.2.2.2.1).step _ Q) $$ Hx; iintro Hx; dsimp only [atMask, atRest, atBcast]; rw [e]
  iapply (((P (scan x 103)).2.2.2.2.2.2.2.2.2.2.2.2.2.2.2.1).step _ Q) $$ Hx; iintro Hx; dsimp only [atMask, atRest, atBcast]; rw [e]
  iapply (((P (scan x 110)).2.2.2.2.2.2.2.2.2.2.2.2.2.2.2.2.1).step _ Q) $$ Hx; iintro Hx; dsimp only [atMask, atRest, atBcast]; rw [e]
  iapply (((P (scan x 117)).2.2.2.2.2.2.2.2.2.2.2.2.2.2.2.2.2).step _ Q) $$ Hx; iintro Hx; dsimp only [atMask, atRest, atBcast]; rw [e]
  subst hxe
  iapply ((part21_run xs c hx ho hs).step _ Q) $$ [Hx S0]
  · isplitl [Hx] <;> iassumption
  iintro ⟨Hx, S0⟩; dsimp only
  iapply ((part22_run xs K c hx ho hs _ _ _).step _ Q) $$ [S0 Hcb Hpb HO T1 T2]
  · isplitr; · iexact HR
    isplitr; · iexact HL
    isplitl [S0]; · iexact S0
    isplitl [Hcb]; · iexact Hcb
    isplitl [HO]; · iexact HO
    isplitl [Hpb]; · iexact Hpb
    isplitl [T1]; · iexact T1
    iexact T2
  iintro ⟨HO, Hvb, Hcs1, Hcs2, S0, Hd⟩
  iapply ((part23_run xs K c hx ho hs _ _).step _ Q) $$ [S0 Hd HO T0 C2 P2]
  · isplitr; · iexact HR
    isplitl [S0]; · iexact S0
    isplitl [Hd]; · iexact Hd
    isplitl [HO]; · iexact HO
    isplitl [T0]; · iexact T0
    isplitl [C2] <;> iassumption
  iintro ⟨HO, Hcs0, Hv2, S3⟩; dsimp only
  iapply ((part24_run xs K c hx ho hs _ (better (pairOf xs (up 3 c)) (pairOf xs c)) f).step _ Q) $$ [HO C0 P0 C1 P1 Hf]
  · isplitr; · iexact HR
    isplitl [HO]; · iexact HO
    isplitl [C0 P0]; · isplitl [C0] <;> iassumption
    isplitl [C1 P1]; · isplitl [C1] <;> iassumption
    iexact Hf
  iintro ⟨HO, Hv0, Hv1, S1, S2, Hf⟩; dsimp only
  have h0 : outPts c f ⊢ ((oM.access (orow 0 Nat.zero_lt_two)).loc (c : Thread nD τ) ↦{fullShare} f) := Entails.refl _
  have h1 : ((oM.access (orow 0 Nat.zero_lt_two)).loc (c : Thread nD τ) ↦{fullShare}
      ((oM.access (orow 0 Nat.zero_lt_two)).write (Elt F) f (k0_pay428 (final xs c).1) Finset.univ))
      ⊢ outPts c ((oM.access (orow 0 Nat.zero_lt_two)).write (Elt F) f (k0_pay428 (final xs c).1) Finset.univ) := Entails.refl _
  have h2 : outPts c ((oM.access (orow 0 Nat.zero_lt_two)).write (Elt F) f (k0_pay428 (final xs c).1) Finset.univ)
      ⊢ ((oM.access (orow 1 Nat.one_lt_two)).loc (c : Thread nD τ) ↦{fullShare}
        ((oM.access (orow 0 Nat.zero_lt_two)).write (Elt F) f (k0_pay428 (final xs c).1) Finset.univ)) := Entails.refl _
  have h3 : ((oM.access (orow 1 Nat.one_lt_two)).loc (c : Thread nD τ) ↦{fullShare} ((oM.access (orow 1 Nat.one_lt_two)).write (Elt F)
      ((oM.access (orow 0 Nat.zero_lt_two)).write (Elt F) f (k0_pay428 (final xs c).1) Finset.univ) (k0_pay429 (final xs c).2) Finset.univ))
      ⊢ outPts c (outRows (final xs c)) := Entails.of_eq (by unfold outPts; rw [← out_stored (final xs c) f]; rfl)
  rw [show better (pairOf xs (up 2 c)) (better (pairOf xs (up 1 c)) (better (pairOf xs (up 3 c)) (pairOf xs c))) = final xs c from rfl]
  simp only [Prog.lift, Prog.bind_op, Prog.bind_ret, Prog.pure_eq_ret]
  ihave Hf := h0 $$ Hf
  unfold wpc
  iapply (wp_store Variants.none (c : Thread nD τ) none Set.univ (m := oM) (r := orow 0 Nat.zero_lt_two) (Mk := Finset.univ) (Finset.subset_univ _)) $$ Hf; iintro Hf
  ihave Hf := h1 $$ Hf
  iapply (wp_out_load c) $$ Hf; iintro Hf
  ihave Hf := h2 $$ Hf
  unfold wpc
  iapply (wp_store Variants.none (c : Thread nD τ) none Set.univ (m := oM) (r := orow 1 Nat.one_lt_two) (Mk := Finset.univ) (Finset.subset_univ _)) $$ Hf; iintro Hf
  ihave Hf := h3 $$ Hf
  iapply (wp_sent xs K c 1 rfl (credit_eq lt0)) $$ [HO Hcs1 A1]
  · isplitr; · iexact HR
    isplitl [Hcs1]; · iexact Hcs1
    isplitl [HO] <;> iassumption
  iintro ⟨HO, Hvs, S0⟩
  unfold wpc
  rw [wp_ret]
  imodintro
  iapply Hk
  isplitl [Hx]; · iexact Hx
  isplitl [Hf]; · iexact Hf
  isplitl [HO]; · iexact HO
  isplitl [Hvb]; · iexact Hvb
  isplitl [Hv0 Hv1 Hv2]
  · isplitl [Hv0]; · iexact Hv0
    isplitl [Hv1] <;> iassumption
  isplitl [Hvs]; · iexact Hvs
  isplitl [S0 S1 S2 S3]
  · isplitl [S0]; · iexact S0
    isplitl [S1]; · iexact S1
    isplitl [S2] <;> iassumption
  isplitl [Hcs0] <;> iassumption

/-- The whole body of device `c`. -/
theorem body_run (f : Vec F S2x512 .f32) :
    Runs c iprop(records xs K ∗ levAts L lv ∗ xPts c (xs c) ∗ outPts c f ∗ slots c ∗ owesSome c (O₀ c)
        ∗ (dutyTok ER (barCell (up (0 : Fin 3).succ c)) 0 0 ∗ dutyTok ER (barCell (up (1 : Fin 3).succ c)) 0 1 ∗ dutyTok ER (barCell (up (2 : Fin 3).succ c)) 0 2)
        ∗ (cred (tallyAt (barCell c) () 3) ∗ atPos ER (barCell c) 0 ∅ 0) ∗ (pairToks c 0 ∗ pairToks c 1 ∗ pairToks c 2)
        ∗ (landing c 0 ∗ landing c 1 ∗ landing c 2) ∗ (atPos ER (sendCell c 0) 0 ∅ 0 ∗ atPos ER (sendCell c 1) 0 ∅ 0 ∗ atPos ER (sendCell c 2) 0 ∅ 0))
      (cc0_body (F := F) xM hx oM ho sM hs cc0_scratch1 cc0_scratch2) ⟨⟩
      iprop(xPts c (xs c) ∗ outPts c (outRows (final xs c)) ∗ owesSome c 0 ∗ semVal (barCell c) 0
        ∗ (semVal (recvCell c 0) 0 ∗ semVal (recvCell c 1) 0 ∗ semVal (recvCell c 2) 0)
        ∗ (semVal (sendCell c 0) 0 ∗ semVal (sendCell c 1) 0 ∗ semVal (sendCell c 2) 0) ∗ slots c) := fun Q => by
  rw [cc0_body_eq_skeleton]; unfold cc0_body_skel
  iintro ⟨#HR, HL, Hx, Hf, HS, HO, HU, HB, HT, HC, ⟨A0, A1, A2⟩⟩ Hk
  iapply ((part25_run xs K c hx ho hs f).step _ Q) $$ [HL Hx Hf HS HO HU HB HT HC A1]
  · isplitr; · iexact HR
    isplitl [HL]; · iexact HL
    isplitl [Hx]; · iexact Hx
    isplitl [Hf]; · iexact Hf
    isplitl [HS]; · iexact HS
    isplitl [HO]; · iexact HO
    isplitl [HU]; · iexact HU
    isplitl [HB]; · iexact HB
    isplitl [HT]; · iexact HT
    isplitl [HC] <;> iassumption
  iintro ⟨Hx, Hf, HO, Hvb, Hvr, Hv1, ⟨S0, S1, S2, S3⟩, C0, C2⟩
  simp only [Prog.lift, Prog.bind_op, Prog.bind_ret, Prog.pure_eq_ret]
  iapply (wp_sent xs K c 2 rfl (credit_eq lt0)) $$ [HO C2 A2]
  · isplitr; · iexact HR
    isplitl [C2]; · iexact C2
    isplitl [HO] <;> iassumption
  iintro ⟨HO, Hv2, S0c⟩
  iapply (wp_sent xs K c 0 rfl (credit_eq lt0)) $$ [HO C0 A0]
  · isplitr; · iexact HR
    isplitl [C0]; · iexact C0
    isplitl [HO] <;> iassumption
  iintro ⟨HO, Hv0, S0b⟩
  ihave HS0 := (share_back c (canon (pairOf xs c))) $$ [S0 S0b S0c]
  · isplitl [S0]; · iexact S0
    isplitl [S0c] <;> iassumption
  unfold wpc
  rw [wp_ret]
  imodintro
  iapply Hk
  isplitl [Hx]; · iexact Hx
  isplitl [Hf]; · iexact Hf
  isplitl [HO]; · iexact HO
  isplitl [Hvb]; · iexact Hvb
  isplitl [Hvr]; · iexact Hvr
  isplitl [Hv0 Hv1 Hv2]
  · isplitl [Hv0]; · iexact Hv0
    isplitl [Hv1] <;> iassumption
  have hsl : iprop((∃ f, slotPts c 0 lt0 fullShare f) ∗ (∃ f, slotPts c 1 lt1 fullShare f) ∗ (∃ f, slotPts c 2 lt2 fullShare f)
      ∗ (∃ f, slotPts c 3 lt3 fullShare f)) ⊢ slots (F := F) c := Entails.refl _
  iapply hsl
  isplitl [HS0]; · iexists _; iexact HS0
  isplitl [S1]; · iexact S1
  isplitl [S2] <;> iassumption

end Run

end Cert.Argmax

end
-- ==== Proof.Alloc.lean ====
/-
# The protocol set up

What the launch allocates: the twenty-eight cells' invariants and the duties' tokens, dealt so that each device holds those of the duties
it discharges; and what each device is owed at launch.
-/
module

public import proofs.«01_k».proof.Proof.Body
public import proofs.«01_k».proof.Proof.Gen.KernelIdeal.Launch
public import Idealize.ShloMosaic.Lib.Pipeline.Launch
public import Idealize.ShloMosaic.Lib.Pipeline.CollectiveSegs

@[expose] public section

noncomputable section

namespace Cert.Argmax

open Cert.KernelIdeal Cert.KernelIdeal.Gen
open Idealize.ShloMosaic hiding ix1 ix2 ix3 eq_ix1 eq_ix2 eq_ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1024x512 .f32)

/-! ## Cells and tokens -/

/-- The two of the eight semaphores the program never signals. -/
def spare (k : Fin 2) : DmaSem sig := ⟨2 + 4 * k.val, by show 2 + 4 * k.val < 10; omega⟩

/-- The kernel's own semaphores. -/
abbrev osem : Fin 8 → SemLoc sig := fun
  | 0 => .dma (spare 0) | 1 => .dma (sendQ 0) | 2 => .dma (sendQ 1) | 3 => .dma (sendQ 2)
  | 4 => .dma (spare 1) | 5 => .dma (recvQ 0) | 6 => .dma (recvQ 1) | 7 => .dma (recvQ 2)
theorem ownSemFacts : Pipeline.OwnSemFacts cfg0.spec osem := by decide

theorem csem_injective : Function.Injective csem := by decide
theorem kcell_injective : Function.Injective (kcell : Dev nD × Fin 7 → GSem nD τ sig) := by
  rintro ⟨c, k⟩ ⟨c', k'⟩ h
  have h1 : c = c' := congrArg (fun g : GSem nD τ sig => g.1.1) h
  subst h1
  exact congrArg (Prod.mk c) (csem_injective (congrArg Prod.snd h : csem k = csem k'))
def allCells : Finset (GSem nD τ sig) := Finset.univ.map ⟨kcell, kcell_injective⟩

/-- A device's nine duties: its barrier's three, each send cell's one, each receive cell's one. -/
abbrev duty : Fin 9 → Fin 7 × Fin 3 := fun
  | 0 => (0, 0) | 1 => (0, 1) | 2 => (0, 2)
  | 3 => (1, 0) | 4 => (2, 0) | 5 => (3, 0)
  | 6 => (4, 0) | 7 => (5, 0) | 8 => (6, 0)
theorem duty_injective : Function.Injective duty := by decide
abbrev tokOf (cj : Dev nD × Fin 9) : GSem nD τ sig × ℕ × Fin 3 := (kcell (cj.1, (duty cj.2).1), 0, (duty cj.2).2)
theorem tokOf_injective : Function.Injective (tokOf : Dev nD × Fin 9 → GSem nD τ sig × ℕ × Fin 3) := by
  rintro ⟨c, j⟩ ⟨c', j'⟩ h
  have h1 := kcell_injective (congrArg Prod.fst h)
  have h2 : (duty j).2 = (duty j').2 := congrArg (fun x : GSem nD τ sig × ℕ × Fin 3 => x.2.2) h
  have h3 : c = c' := congrArg Prod.fst h1
  have h4 : (duty j).1 = (duty j').1 := congrArg Prod.snd h1
  rw [h3, duty_injective (Prod.ext h4 h2)]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- The tokens of the duties device `c` discharges. -/
def payToks (c : Dev nD) : sProp 𝕄 :=
  iprop((dutyTok ER (barCell (up (0 : Fin 3).succ c)) 0 0 ∗ dutyTok ER (barCell (up (1 : Fin 3).succ c)) 0 1 ∗ dutyTok ER (barCell (up (2 : Fin 3).succ c)) 0 2)
    ∗ (pairToks c 0 ∗ pairToks c 1 ∗ pairToks c 2))

/-- The mesh axis turned by `s` places. -/
def turn (s : Fin 4) : Dev nD ≃ Dev nD := ⟨up s, dn s, dn_up s, up_dn s⟩

/-- Each token goes to the device that discharges its duty. -/
theorem toks_around : (bigSep Finset.univ fun c : Dev nD => (toks c : sProp 𝕄)) ⊢ bigSep Finset.univ fun c : Dev nD => payToks c := by
  unfold toks payToks pairToks
  simp only [bigSep_sep']
  rw [bigSep_univ_equiv (turn (0 : Fin 3).succ) (fun c : Dev nD => (dutyTok ER (barCell c) 0 0 : sProp 𝕄)),
    bigSep_univ_equiv (turn (1 : Fin 3).succ) (fun c : Dev nD => (dutyTok ER (barCell c) 0 1 : sProp 𝕄)),
    bigSep_univ_equiv (turn (2 : Fin 3).succ) (fun c : Dev nD => (dutyTok ER (barCell c) 0 2 : sProp 𝕄)),
    bigSep_univ_equiv (turn (0 : Fin 3).succ).symm (fun c : Dev nD => (dutyTok ER (recvCell c 0) 0 0 : sProp 𝕄)),
    bigSep_univ_equiv (turn (1 : Fin 3).succ).symm (fun c : Dev nD => (dutyTok ER (recvCell c 1) 0 0 : sProp 𝕄)),
    bigSep_univ_equiv (turn (2 : Fin 3).succ).symm (fun c : Dev nD => (dutyTok ER (recvCell c 2) 0 0 : sProp 𝕄))]
  iintro ⟨B0, B1, B2, S0, S1, S2, R0, R1, R2⟩
  isplitl [B0 B1 B2]
  · isplitl [B0]; · iexact B0
    isplitl [B1]; · iexact B1
    iexact B2
  isplitl [S0 R0]
  · isplitl [S0]; · iexact S0
    iexact R0
  isplitl [S1 R1]
  · isplitl [S1]; · iexact S1
    iexact R1
  isplitl [S2]; · iexact S2
  iexact R2

/-- What the launch element deals device `c`. -/
def G (c : Dev nD) : sProp 𝕄 :=
  iprop((bigSep Finset.univ fun k : Fin 7 => roundState ER (sched xs) (kcell (c, k)) 0)
    ∗ (bigSep Finset.univ fun k : Fin 7 => iprop(atPos ER (kcell (c, k)) 0 ∅ 0 ∗ reached ER (kcell (c, k)) 0)) ∗ toks c)

/-- The two counters the program never touches. -/
def idle (c : Dev nD) : sProp 𝕄 := iprop(semVal ((c : Thread nD τ), .dma (spare 0)) 0 ∗ semVal ((c : Thread nD τ), .dma (spare 1)) 0)

/-- What device `c` alone holds: its positions, the tokens of the duties it discharges, the two idle counters. -/
def own (c : Dev nD) : sProp 𝕄 := iprop((bigSep Finset.univ fun k : Fin 7 => atPos ER (kcell (c, k)) 0 ∅ 0) ∗ payToks c ∗ idle c)

/-- What the set-up makes of it. -/
def G' (c : Dev nD) : sProp 𝕄 := iprop(∃ K, records xs K ∗ own c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_cells : BI.own (ER (initOf allCells allToks)) ⊢ (|==> bigSep Finset.univ (G xs) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin9]; rfl
  iintro HX
  imod (Rounds.fund ER (sched xs) allCells allToks) $$ HX with ⟨Hst, Hr, Hat, Htok⟩
  imodintro
  ihave Hst' := (Entails.of_eq (hX fun g => roundState ER (sched xs) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (spare 0)) 0 ∗ semVal (sendCell c 0) 0 ∗ semVal (sendCell c 1) 0 ∗ semVal (sendCell c 2) 0
      ∗ semVal ((c : Thread nD τ), .dma (spare 1)) 0 ∗ semVal (recvCell c 0) 0 ∗ semVal (recvCell c 1) 0 ∗ semVal (recvCell c 2) 0) := by
  rw [Pipeline.ownSems0_eq_of_list c osem [0, 1, 2, 3, 4, 5, 6, 7] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All the counters of device `c` at zero: the seven cells' and the two idle ones. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ idle c) : sProp 𝕄) := by
  rw [ownSems0_eq, unscopedSems0_eq, bigSep_fin7]; unfold idle
  iintro ⟨⟨I0, S0, S1, S2, I1, R0, R1, R2⟩, HB⟩
  isplitr [I0 I1]
  · isplitl [HB]; · iexact HB
    isplitl [S0]; · iexact S0
    isplitl [S1]; · iexact S1
    isplitl [S2]; · iexact S2
    isplitl [R0]; · iexact R0
    isplitl [R1] <;> iassumption
  isplitl [I0] <;> iassumption

theorem core_alloc (c : Dev nD) :
    iprop(Pipeline.ownSems0 (Ix := Unit) (Name := ℕ) (U := UU) (Lvl := ℕ) (Val := Elt F) (τ := τ) osem c ∗ unscopedSems0 c ∗ G xs c)
      ⊢ |={Set.univ}=> iprop((bigSep Finset.univ fun k : Fin 7 => iprop(∃ κ : ℕ, cellInv ER (sched xs) κ (kcell (c, k))))
          ∗ (bigSep Finset.univ fun k : Fin 7 => iprop(atPos ER (kcell (c, k)) 0 ∅ 0 ∗ reached ER (kcell (c, k)) 0)) ∗ toks c ∗ idle c) := by
  unfold G
  iintro ⟨Hos, Hus, Hst, Hat, Htok⟩
  ihave Hv := (sems0_eq (F := F) c) $$ [Hos Hus]
  · isplitl [Hos] <;> iassumption
  icases Hv with ⟨Hv, Hid⟩
  imod (show iprop((bigSep Finset.univ fun k : Fin 7 => semVal (kcell (c, k)) 0) ∗ bigSep Finset.univ fun k : Fin 7 => roundState ER (sched xs) (kcell (c, k)) 0)
      ⊢ (|={Set.univ}=> bigSep Finset.univ fun k : Fin 7 => iprop(∃ κ : ℕ, cellInv ER (sched xs) κ (kcell (c, k))) : sProp 𝕄) from by
        rw [← bigSep_sep']
        exact (bigSep_mono fun k _ => (Rounds.body_intro ER (sched xs) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 7 => iprop(∃ κ : ℕ, cellInv ER (sched xs) κ (kcell (c, k))))
          ∗ (bigSep Finset.univ fun k : Fin 7 => iprop(atPos ER (kcell (c, k)) 0 ∅ 0 ∗ reached ER (kcell (c, k)) 0)) ∗ toks c ∗ idle c) : sProp 𝕄)
      ⊢ bigSep Finset.univ (G' xs) := by
  rw [bigSep_sep', bigSep_sep', bigSep_sep', ← bigSep_univ_prod (fun ck : Dev nD × Fin 7 => iprop(∃ κ : ℕ, cellInv ER (sched xs) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hid⟩
  ihave HK := (BI.bigSep_exists_pi Finset.univ (fun (ck : Dev nD × Fin 7) (κ : ℕ) => (cellInv ER (sched xs) κ (kcell ck) : sProp 𝕄))) $$ HI
  icases HK with ⟨%K, #HI⟩
  ihave Htk := (toks_around (F := F)) $$ Htok
  have hin : ∀ c ∈ (Finset.univ : Finset (Dev nD)), iprop(records xs K ∗ own c) ⊢ G' xs c := fun c _ => by
    unfold G'; iintro H; iexists K; iexact H
  iapply (bigSep_with (R := records xs K) hin)
  isplitr
  · unfold records; isplitl; · iexact HI
    iexact HR
  · unfold own
    rw [bigSep_sep', bigSep_sep']
    isplitl [Hat]; · iexact Hat
    isplitl [Htk] <;> iassumption

/-- The set-up: every device's counters at once. -/
theorem glob : (bigSep Finset.univ fun c => iprop(Pipeline.ownSems0 (Ix := Unit) (Name := ℕ) (U := UU) (Lvl := ℕ) (Val := Elt F) (τ := τ) osem c ∗ unscopedSems0 c ∗ G xs c) : sProp 𝕄)
    ⊢ |={Set.univ}=> bigSep Finset.univ (G' xs) :=
  ((bigSep_mono fun c _ => core_alloc xs c).trans (bigSep_fupd _ _)).trans (BI.fupd_mono (regroup xs))

/-! ## What each cell is owed at launch -/

theorem bar_eq_iff {a b : Dev nD} : barCell a = barCell b ↔ a = b :=
  ⟨fun h => congrArg (fun g : GSem nD τ sig => g.1.1) h, fun h => h ▸ rfl⟩
theorem recv_eq_iff {a b : Dev nD} {j k : Fin 3} : recvCell a j = recvCell b k ↔ a = b ∧ j = k :=
  ⟨fun h => ⟨congrArg (fun g : GSem nD τ sig => g.1.1) h, by
    have h2 : recvQ j = recvQ k := SemLoc.dma.inj (congrArg Prod.snd h)
    exact (by decide : ∀ j k : Fin 3, recvQ j = recvQ k → j = k) j k h2⟩, fun h => by rw [h.1, h.2]⟩
theorem recv_ne_bar (a b : Dev nD) (k : Fin 3) : recvCell a k ≠ barCell b := fun h => by cases congrArg Prod.snd h

theorem unit_bar (d c : Dev nD) (k : Fin 3) : oweUnit d k (barCell c) () = if d = dn k.succ c then 1 else 0 := by
  unfold oweUnit; rw [tallyAt_apply]
  refine if_congr ⟨fun h => ?_, fun h => ⟨?_, rfl⟩⟩ rfl rfl
  · rw [bar_eq_iff.mp h.1, dn_up]
  · rw [h, up_dn]
theorem unit_recv (d c : Dev nD) (j k : Fin 3) : oweUnit d k (recvCell c j) () = 0 := by
  unfold oweUnit; rw [tallyAt_ne_cell (recv_ne_bar _ _ _)]; rfl
theorem send_bar (d c : Dev nD) (k : Fin 3) : oweSend d k (barCell c) () = 0 := by
  unfold oweSend; rw [tallyAt_ne_cell (recv_ne_bar _ _ _).symm]; rfl
theorem send_recv (d c : Dev nD) (j k : Fin 3) : oweSend d k (recvCell c j) () = if d = up k.succ c ∧ j = k then N else 0 := by
  unfold oweSend; rw [tallyAt_apply]
  refine if_congr ⟨fun h => ?_, fun h => ⟨?_, rfl⟩⟩ rfl rfl
  · have := recv_eq_iff.mp h.1
    exact ⟨by rw [this.1, up_dn], this.2⟩
  · rw [h.1, dn_up, h.2]

theorem owed_bar (d c : Dev nD) : O₀ d (barCell c) ()
    = (if d = dn (2 : Fin 3).succ c then 1 else 0) + (if d = dn (1 : Fin 3).succ c then 1 else 0) + (if d = dn (0 : Fin 3).succ c then 1 else 0) := by
  unfold O₀ owed₃
  simp only [Pi.add_apply, Finsupp.add_apply, unit_bar, send_bar, Nat.zero_add]
theorem owed_recv (d c : Dev nD) (k : Fin 3) : O₀ d (recvCell c k) () = if d = up k.succ c then N else 0 := by
  unfold O₀ owed₃
  simp only [Pi.add_apply, Finsupp.add_apply, unit_recv, send_recv, Nat.add_zero]
  obtain rfl | rfl | rfl : k = 0 ∨ k = 1 ∨ k = 2 := by revert k; decide
  all_goals simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ _ fun _ => N,
    if_pos (Finset.mem_univ _)]

/-- The credit a device starts with. -/
theorem creds (c : Dev nD) :
    (Pipeline.launchCred O₀ c : sProp 𝕄) ⊢ iprop(cred (tallyAt (barCell c) () 3) ∗ cred (tallyAt (recvCell c 0) () N) ∗ cred (tallyAt (recvCell c 1) () N)
      ∗ cred (tallyAt (recvCell c 2) () N)) := by
  unfold Pipeline.launchCred
  refine (bigSep_subset (Finset.subset_univ ([SemLoc.reg barS, .dma (recvQ 0), .dma (recvQ 1), .dma (recvQ 2)] : List (SemLoc sig)).toFinset)).trans ?_
  rw [bigSep_eq_bigSepL_of_eq [SemLoc.reg barS, .dma (recvQ 0), .dma (recvQ 1), .dma (recvQ 2)] rfl (by decide), ← launch_bar, ← launch_recv, ← launch_recv, ← launch_recv]
  exact Entails.refl _

end Cert.Argmax

end
-- ==== Proof.Launch.lean ====
/-
# The launch

The region's proof data, its body's obligation from `body_run`, and the run of the whole program on the mesh, over any float values.
-/
module

public import proofs.«01_k».proof.Proof.Alloc
public import Idealize.ShloMosaic.Lib.Ring
public import Idealize.ShloMosaic.Lib.Pipeline.Launch
public import Idealize.ShloMosaic.Lib.Pipeline.Kit

@[expose] public section

noncomputable section

namespace Cert.Argmax

open Cert.KernelIdeal Cert.KernelIdeal.Gen
open Idealize.ShloMosaic hiding ix1 ix2 ix3 eq_ix1 eq_ix2 eq_ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The initial machine. -/
def s₀ : MemSt nD τ sig (Elt F) := ⟨m, fun _ => 0, ρ⟩

/-- Each device's block of `x`, as staged. -/
def blockOf (c : Dev nD) : Vec F S1024x512 .f32 := (win0_0.blk t0_0).view.read (Elt F) ((s₀ m ρ).mem (win0_0.arr.view.loc (c : Thread nD τ)))

/-- What the kernel writes on device `c`. -/
def outAt (c : Dev nD) : Vec F S2x512 .f32 := outRows (final (blockOf m ρ) c)

/-! ## The region's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the set-up hands device `c`: its share of the protocol and its credit. -/
def start (c : Dev nD) : sProp 𝕄 :=
  iprop(G' (blockOf m ρ) c ∗ (cred (tallyAt (barCell c) () 3) ∗ cred (tallyAt (recvCell c 0) () N) ∗ cred (tallyAt (recvCell c 1) () N)
    ∗ cred (tallyAt (recvCell c 2) () N)) ∗ levAts L lv)

/-- The scratch, whole, at some contents. -/
def scratch (c : Dev nD) : sProp 𝕄 := iprop(∃ f : Scr F, ((c : Thread nD τ).loc cc0_scratch0) ↦{fullShare} f)

def Φ₀ (c : Dev nD) : sProp 𝕄 := iprop(start m ρ c ∗ scratch c)
/-- After the body: the scratch whole, every counter at zero. -/
def Φ₁ (c : Dev nD) : sProp 𝕄 :=
  iprop(scratch c ∗ semVal (barCell c) 0 ∗ (semVal (recvCell c 0) 0 ∗ semVal (recvCell c 1) 0 ∗ semVal (recvCell c 2) 0)
    ∗ (semVal (sendCell c 0) 0 ∗ semVal (sendCell c 1) 0 ∗ semVal (sendCell c 2) 0) ∗ idle c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => blockOf m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The scratch as its four slots -/

theorem lt_four (k : Fin 4) : k.val < 4 := k.isLt

/-- The entries of slot `k`. -/
abbrev block (k : Fin 4) : Finset S4x2x512.Idx := (slot k.val (lt_four k)).view.set

theorem block_disjoint (k k' : Fin 4) (h : k ≠ k') : Disjoint (block k) (block k') :=
  slot_disjoint _ _ fun e => h (Fin.ext e)
theorem block_cover : Finset.univ.biUnion block = Finset.univ :=
  Finset.eq_univ_of_forall fun i => Finset.mem_biUnion.mpr ⟨⟨(i 0).val, (i 0).isLt⟩, Finset.mem_univ _, (mem_slot _ i).mpr rfl⟩

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem slots_of_scratch (c : Dev nD) : (scratch c : sProp 𝕄) ⊢ slots c := by
  unfold scratch
  iintro ⟨%f, H⟩
  ihave H1 := (Entails.of_eq ((Ring.pointsTo_blocks (ℓ := (c : Thread nD τ).loc cc0_scratch0) (q := fullShare) block block_disjoint block_cover f).trans (bigSep_fin4 _))) $$ H
  icases H1 with ⟨H0, H1, H2, H3⟩
  unfold slots slotPts
  isplitl [H0]; · iexists f; iexact H0
  isplitl [H1]; · iexists f; iexact H1
  isplitl [H2]; · iexists f; iexact H2
  iexists f; iexact H3

theorem scratch_of_slots (c : Dev nD) : (slots c : sProp 𝕄) ⊢ scratch c := by
  have h : iprop((∃ f : Scr F, slotPts c 0 lt0 fullShare f) ∗ (∃ f : Scr F, slotPts c 1 lt1 fullShare f) ∗ (∃ f : Scr F, slotPts c 2 lt2 fullShare f)
      ∗ (∃ f : Scr F, slotPts c 3 lt3 fullShare f)) ⊢ (scratch c : sProp 𝕄) := by
    refine BI.Entails.trans ?_ (Ring.pointsTo_blocks_join_exists (ℓ := (c : Thread nD τ).loc cc0_scratch0) (q := fullShare) block block_disjoint block_cover (fun _ => default))
    rw [bigSep_fin4]
    exact Entails.refl _
  exact h

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (blockOf m ρ c) ∗ stg c cc0_stg1_0 (outAt m ρ c))

theorem staged_x (c : Dev nD) (f : Vec F S1024x512 .f32) : (((c : Thread nD τ).loc cc0_stg0_0) ↦{fullShare} f : sProp 𝕄) ⊢ xPts c f := Entails.refl _
theorem x_staged (c : Dev nD) (f : Vec F S1024x512 .f32) : (xPts c f : sProp 𝕄) ⊢ (((c : Thread nD τ).loc cc0_stg0_0) ↦{fullShare} f) := Entails.refl _
theorem staged_out (c : Dev nD) (f : Vec F S2x512 .f32) : (((c : Thread nD τ).loc cc0_stg1_0) ↦{fullShare} f : sProp 𝕄) ⊢ outPts c f := Entails.refl _
theorem out_staged (c : Dev nD) (f : Vec F S2x512 .f32) : (outPts c f : sProp 𝕄) ⊢ (((c : Thread nD τ).loc cc0_stg1_0) ↦{fullShare} f) := Entails.refl _

/-- `body_run` between the region's two assertions. -/
theorem sound_body (c : Dev nD) :
    bodyPre m ρ c ⊢ wp frame (wpE (defs₀ (F := F)) Variants.none c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m ρ c) := by
  unfold bodyPre Φ₀ start G' own payToks
  rw [bigSep_fin7]
  iintro ⟨⟨⟨⟨%K, #Hrec, ⟨HaB, HaS0, HaS1, HaS2, HaR0, HaR1, HaR2⟩, ⟨Hbar, Hpair⟩, Hid⟩, ⟨HcB, HcR0, HcR1, HcR2⟩, #Hlev⟩, Hscr⟩,
    Ho, ⟨%d0, %g0, %hg0, Hx⟩, ⟨%d1, %g1, %hg1, Hout⟩⟩
  have hx : g0 = blockOf m ρ c := by rw [hg0]; unfold Dat.before; rw [if_pos (fetch_0 t₀)]; rfl
  subst hx
  ihave Hx := (staged_x c (blockOf m ρ c)) $$ Hx
  ihave Hout := (staged_out c g1) $$ Hout
  unfold Dat.owesAt Pipeline.owesWithin
  icases Ho with ⟨%W, %hW, HO⟩
  ihave HO' := (show (owes (c : Thread nD τ) ((dats m ρ 0 c).owed t₀.castSucc) W : sProp 𝕄) ⊢ owesSome c (O₀ c) from by
    unfold owesSome; iintro H; iexists W; iexact H) $$ HO
  ihave Hsl := (slots_of_scratch c) $$ Hscr
  iapply (body_run (blockOf m ρ) K c (Memref.isWhole_whole _) (Memref.isWhole_whole _) (Memref.isWhole_whole _) g1 (fun _ => bodyPost m ρ c))
    $$ [Hx Hout Hsl HO' Hbar HcB HaB Hpair HcR0 HaR0 HcR1 HaR1 HcR2 HaR2 HaS0 HaS1 HaS2]
  · isplitr; · iexact Hrec
    isplitr; · iexact Hlev
    isplitl [Hx]; · iexact Hx
    isplitl [Hout]; · iexact Hout
    isplitl [Hsl]; · iexact Hsl
    isplitl [HO']; · iexact HO'
    isplitl [Hbar]; · iexact Hbar
    isplitl [HcB HaB]
    · isplitl [HcB]; · iexact HcB
      iexact HaB
    isplitl [Hpair]; · iexact Hpair
    isplitl [HcR0 HaR0 HcR1 HaR1 HcR2 HaR2]
    · unfold landing
      isplitl [HcR0 HaR0]
      · isplitl [HcR0]; · iexact HcR0
        iexact HaR0
      isplitl [HcR1 HaR1]
      · isplitl [HcR1]; · iexact HcR1
        iexact HaR1
      isplitl [HcR2]; · iexact HcR2
      iexact HaR2
    isplitl [HaS0]; · iexact HaS0
    isplitl [HaS1]; · iexact HaS1
    iexact HaS2
  iintro ⟨Hx, Hout, HO, HzB, HzR, HzS, Hsl⟩
  ihave Hscr := (scratch_of_slots c) $$ Hsl
  unfold bodyPost Φ₁ Dat.owesAt Pipeline.owesWithin owesSome
  icases HO with ⟨%W', HO⟩
  ihave Hx := (x_staged c (blockOf m ρ c)) $$ Hx
  ihave Hout := (out_staged c (outRows (final (blockOf m ρ) c))) $$ Hout
  isplitl [Hscr HzB HzR HzS Hid]
  · isplitl [Hscr]; · iexact Hscr
    isplitl [HzB]; · iexact HzB
    isplitl [HzR]; · iexact HzR
    isplitl [HzS]; · iexact HzS
    iexact Hid
  isplitl [HO]
  · iexists W'
    isplitr; · ipureintro; exact fun _ _ => Or.inl trivial
    iexact HO
  isplitl [Hx]
  · iexists _; isplitr; · (ipureintro; rfl)
    iexact Hx
  unfold outAt
  iexists _; isplitr; · (ipureintro; rfl)
  iexact Hout

set_option maxRecDepth 4000 in
/-- The region's obligation on device `c`. -/
theorem body_obligation (c : Dev nD) : BodyObligation (dats (F := F) m ρ 0 c) (defs₀ (F := F)) Variants.none () Set.univ := fun t => by
  rw [fin_N t]
  rw [bigSep_W, bigSep_W]
  simp only [owns_whole_eq]
  exact sound_body m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (blockOf m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch idle
  iintro ⟨⟨%f, Hr⟩, HzB, ⟨R0, R1, R2⟩, ⟨S0, S1, S2⟩, I0, I1⟩
  isplitl [HzB]; · iexact HzB
  isplitr [Hr]
  · isplitl [I0]; · iexact I0
    isplitl [S0]; · iexact S0
    isplitl [S1]; · iexact S1
    isplitl [S2]; · iexact S2
    isplitl [I1]; · iexact I1
    isplitl [R0]; · iexact R0
    isplitl [R1] <;> iassumption
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every device's two arrays are at what the region leaves in them. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution ends, with each device's two arrays at what the region leaves in them and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (blockOf m ρ)) (G' := G' (blockOf m ρ)) (u₀ := u₀)
    (hu₀ := by
      unfold u₀
      iintro Hu
      ihave H := (ownU_pair _ _) $$ Hu
      icases H with ⟨HP, HX⟩
      imod (fund_cells (blockOf m ρ)) $$ HX with HG
      imodintro
      isplitl [HP] <;> iassumption)
    (hglob := glob (blockOf m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The region leaves `x` as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Argmax

end
-- ==== Proof.Best.lean ====
/-
# The largest value and the least position attaining it

The mathematics both programs compute: of the values `f k`, over the `k` in a set, the largest and the least `k` attaining it. It is unique,
and that of a union is the better of the two parts'.
-/
module

public import Idealize.ShloMosaic.PureOps.Ideal.Laws

@[expose] public section

noncomputable section

namespace Cert.Argmax

open Idealize.ShloMosaic

/-- Over the positions in `P`, `v` is the largest of the values `f` and `i` is the least position attaining it. -/
def IsBest (f : ℕ → EReal) (P : ℕ → Prop) (v : EReal) (i : ℕ) : Prop :=
  P i ∧ f i = v ∧ ∀ k, P k → f k < v ∨ (f k = v ∧ i ≤ k)

variable {f : ℕ → EReal} {P Q : ℕ → Prop} {v w : EReal} {i j : ℕ}

/-- No value exceeds the best one. -/
theorem IsBest.le (h : IsBest f P v i) {k : ℕ} (hk : P k) : f k ≤ v := (h.2.2 k hk).elim le_of_lt fun e => le_of_eq e.1

/-- There is one best pair. -/
theorem IsBest.unique (h : IsBest f P v i) (h' : IsBest f P w j) : v = w ∧ i = j := by
  have e : v = w := le_antisymm (by rw [← h.2.1]; exact h'.le h.1) (by rw [← h'.2.1]; exact h.le h'.1)
  subst e
  refine ⟨rfl, Nat.le_antisymm ?_ ?_⟩
  · exact (h.2.2 j h'.1).elim (fun l => absurd l (by rw [h'.2.1]; exact lt_irrefl _)) And.right
  · exact (h'.2.2 i h.1).elim (fun l => absurd l (by rw [h.2.1]; exact lt_irrefl _)) And.right

/-- The set may be restated. -/
theorem IsBest.congr (h : IsBest f P v i) (hPQ : ∀ k, P k ↔ Q k) : IsBest f Q v i :=
  ⟨(hPQ i).mp h.1, h.2.1, fun k hk => h.2.2 k ((hPQ k).mpr hk)⟩

/-- Where the first of two best pairs is larger, or equal at a smaller position, it is the union's. -/
theorem IsBest.union_left (h : IsBest f P v i) (h' : IsBest f Q w j) (c : w < v ∨ (v = w ∧ i < j)) :
    IsBest f (fun k => P k ∨ Q k) v i := by
  refine ⟨Or.inl h.1, h.2.1, fun k hk => hk.elim (h.2.2 k) fun hq => ?_⟩
  rcases c with c | ⟨rfl, c⟩
  · exact Or.inl (lt_of_le_of_lt (h'.le hq) c)
  · exact (h'.2.2 k hq).imp id fun e => ⟨e.1, le_trans c.le e.2⟩

/-- Where it is not, the second is. -/
theorem IsBest.union_right (h : IsBest f P v i) (h' : IsBest f Q w j) (c : ¬(w < v ∨ (v = w ∧ i < j))) :
    IsBest f (fun k => P k ∨ Q k) w j := by
  refine ⟨Or.inr h'.1, h'.2.1, fun k hk => hk.elim (fun hp => ?_) (h'.2.2 k)⟩
  have hvw : v ≤ w := le_of_not_gt fun l => c (Or.inl l)
  rcases h.2.2 k hp with l | ⟨e, l⟩
  · exact Or.inl (lt_of_lt_of_le l hvw)
  · rcases lt_or_eq_of_le hvw with l' | rfl
    · exact Or.inl (e ▸ l')
    · exact Or.inr ⟨e, le_trans (not_lt.mp fun l'' => c (Or.inr ⟨rfl, l''⟩)) l⟩

/-- The fold of `max` from `-∞` is a value that bounds all and is attained. -/
theorem fold_max_eq {ι : Type} (s : Finset ι) (g : ι → EReal) (v : EReal) (hle : ∀ k ∈ s, g k ≤ v) (hex : ∃ k ∈ s, g k = v) :
    s.fold max ⊥ g = v := by
  refine le_antisymm ((Finset.fold_max_le v).mpr ⟨bot_le, hle⟩) ((Finset.le_fold_max v).mpr (Or.inr ?_))
  obtain ⟨k, hk, e⟩ := hex
  exact ⟨k, hk, le_of_eq e.symm⟩

/-- The fold of the signed minimum is at most each word folded, and is the initial word or one of those. -/
theorem fold_minsi {ι : Type} [DecidableEq ι] (s : Finset ι) (b : BitVec 32) (g : ι → BitVec 32) :
    (∀ k ∈ s, (s.fold IntOp.minsi b g).toInt ≤ (g k).toInt) ∧ (s.fold IntOp.minsi b g).toInt ≤ b.toInt
      ∧ (s.fold IntOp.minsi b g = b ∨ ∃ k ∈ s, s.fold IntOp.minsi b g = g k) := by
  have step (x y : BitVec 32) : ((IntOp.minsi x y).toInt ≤ x.toInt ∧ (IntOp.minsi x y).toInt ≤ y.toInt) ∧ (IntOp.minsi x y = x ∨ IntOp.minsi x y = y) := by
    unfold IntOp.minsi
    rcases h : x.slt y with _ | _
    · rw [if_neg (by decide)]
      rw [BitVec.slt, decide_eq_false_iff_not] at h
      exact ⟨⟨not_lt.mp h, le_refl _⟩, Or.inr rfl⟩
    · rw [if_pos rfl]
      rw [BitVec.slt, decide_eq_true_eq] at h
      exact ⟨⟨le_refl _, h.le⟩, Or.inl rfl⟩
  induction s using Finset.induction_on with
  | empty => exact ⟨fun k hk => absurd hk (Finset.notMem_empty k), le_refl _, Or.inl rfl⟩
  | insert a s ha ih =>
    rw [Finset.fold_insert ha]
    obtain ⟨⟨h1, h2⟩, h3⟩ := step (g a) (s.fold IntOp.minsi b g)
    refine ⟨fun k hk => ?_, le_trans h2 ih.2.1, ?_⟩
    · rcases Finset.mem_insert.mp hk with rfl | hk
      · exact h1
      · exact le_trans h2 (ih.1 k hk)
    · rcases h3 with h3 | h3
      · exact Or.inr ⟨a, Finset.mem_insert_self _ _, h3⟩
      · rw [h3]
        exact ih.2.2.imp id fun ⟨k, hk, e⟩ => ⟨k, Finset.mem_insert_of_mem hk, e⟩

/-- A fold that at each pair keeps the better of two — the larger value, at equal values the lower number — ends at one of the pairs, no
    worse than any. -/
theorem foldl_better {α : Type} (le : α → α → Prop) (hr : ∀ a, le a a) (ht : ∀ a b c, le a b → le b c → le a c) (op : α → α → α)
    (h : ∀ a b, (op a b = a ∨ op a b = b) ∧ le (op a b) a ∧ le (op a b) b) (l : List α) (a : α) :
    (l.foldl op a = a ∨ l.foldl op a ∈ l) ∧ le (l.foldl op a) a ∧ ∀ b ∈ l, le (l.foldl op a) b := by
  induction l generalizing a with
  | nil => exact ⟨Or.inl rfl, hr a, fun b hb => absurd hb List.not_mem_nil⟩
  | cons b l ih =>
    obtain ⟨h1, h2, h3⟩ := ih (op a b)
    obtain ⟨e, ha, hb⟩ := h a b
    show (l.foldl op (op a b) = a ∨ _) ∧ _
    refine ⟨?_, ht _ _ _ h2 ha, fun c hc => ?_⟩
    · rcases h1 with h1 | h1
      · rcases e with e | e
        · exact Or.inl (h1.trans e)
        · exact Or.inr (by rw [List.foldl_cons, h1, e]; exact List.mem_cons_self)
      · exact Or.inr (List.mem_cons_of_mem _ h1)
    · rcases List.mem_cons.mp hc with rfl | hc
      · exact ht _ _ _ h2 hb
      · exact h3 c hc

/-- The pattern of `-∞` denotes `-∞`. -/
theorem ofBits_negInf : Ideal.ofBits .f32 0xFF800000#32 = ⊥ := by
  simp [Ideal.ofBits, Ideal.ieee]

end Cert.Argmax

end
-- ==== Proof.Local.lean ====
/-
# One device's pair is the column maximum and its first row

Over the extended reals: the walk keeps, for each of the eight row positions, the largest value and the first group it was met in; the
largest of the eight is the column maximum, and the least of the rows `8 group + position` that attain it is its first row.
-/
module

public import proofs.«01_k».proof.Proof.Values
public import proofs.«01_k».proof.Proof.Best
public import Idealize.ShloMosaic.Lib.ValueLayout
public import Idealize.ShloMosaic.Lib.Pipeline.Value
public import Idealize.ShloMosaic.Lib.Pointwise.Reduce

@[expose] public section

noncomputable section

namespace Cert.Argmax

open Cert.KernelIdeal Cert.KernelIdeal.Gen
open Idealize.ShloMosaic hiding ix1 ix2 ix3 eq_ix1 eq_ix2 eq_ix3
open Idealize.ShloMosaic.ValueIdx

/-- The values of column `j` of a block, by row. -/
def column (x : Vec Ideal S1024x512 .f32) (j : Fin 512) (k : ℕ) : EReal := x (ix2 ⟨k % 1024, Nat.mod_lt _ (by decide)⟩ j)

/-- A group's entry is that of the block's row `8 n + r`. -/
theorem grp_apply (x : Vec Ideal S1024x512 .f32) (n : ℕ) (r : Fin 8) (j : Fin 512) : grp x n (ix2 r j) = column x j (8 * n + r.val) := by
  unfold grp
  rw [shapeCast_self]
  rfl

/-- The state after groups `0 … n`: the largest of the position's values so far, and the word of the first group it was met in. -/
theorem scan_best (x : Vec Ideal S1024x512 .f32) (r : Fin 8) (j : Fin 512) (n : ℕ) :
    ∃ g, IsBest (fun k => column x j (8 * k + r.val)) (· ≤ n) ((scan x n).1 (ix2 r j)) g ∧ (scan x n).2 (ix2 r j) = BitVec.ofNat 32 g := by
  induction n with
  | zero =>
    refine ⟨0, ⟨le_refl 0, (grp_apply x 0 r j).symm, fun k hk => Or.inr ⟨?_, Nat.zero_le k⟩⟩, rfl⟩
    rw [Nat.le_zero.mp hk]
    exact (grp_apply x 0 r j).symm
  | succ n ih =>
    obtain ⟨g, hb, hw⟩ := ih
    have e : scan x (n + 1) = walkStep x n (scan x n) := by
      show walkStep x (0 + n) (scan x n) = _
      rw [Nat.zero_add]
    have hs : IsBest (fun k => column x j (8 * k + r.val)) (· = n + 1) (grp x (n + 1) (ix2 r j)) (n + 1) :=
      ⟨rfl, (grp_apply x (n + 1) r j).symm, fun k hk => Or.inr ⟨by rw [hk]; exact (grp_apply x (n + 1) r j).symm, hk ▸ le_refl _⟩⟩
    have hset : ∀ k, (k = n + 1 ∨ k ≤ n) ↔ k ≤ n + 1 := fun k => by omega
    rw [e]
    show ∃ g', IsBest _ _ (Scalar.select (Ideal.cmp .ogt (grp x (n + 1) (ix2 r j)) ((scan x n).1 (ix2 r j))) _ _) g'
      ∧ Scalar.select (Ideal.cmp .ogt (grp x (n + 1) (ix2 r j)) ((scan x n).1 (ix2 r j))) _ _ = _
    by_cases hlt : (scan x n).1 (ix2 r j) < grp x (n + 1) (ix2 r j)
    · rw [show Ideal.cmp .ogt (grp x (n + 1) (ix2 r j)) ((scan x n).1 (ix2 r j)) = 1#1 from
        congrArg BitVec.ofBool (decide_eq_true hlt)]
      exact ⟨n + 1, (hs.union_left hb (Or.inl hlt)).congr hset, rfl⟩
    · rw [show Ideal.cmp .ogt (grp x (n + 1) (ix2 r j)) ((scan x n).1 (ix2 r j)) = 0#1 from
        congrArg BitVec.ofBool (decide_eq_false hlt)]
      refine ⟨g, (hs.union_right hb fun h => h.elim hlt fun h' => ?_).congr hset, hw⟩
      exact absurd (hb.1) (by omega)

/-- A position's best row among those of the block: the row `8 g + r` of its best group. -/
theorem scan_rows (x : Vec Ideal S1024x512 .f32) (r : Fin 8) (j : Fin 512) :
    ∃ g, IsBest (column x j) (fun k => k < 1024 ∧ k % 8 = r.val) ((scan x 127).1 (ix2 r j)) (8 * g + r.val)
      ∧ (scan x 127).2 (ix2 r j) = BitVec.ofNat 32 g ∧ g ≤ 127 := by
  obtain ⟨g, h, hw⟩ := scan_best x r j 127
  have hr := r.isLt
  have hg : g ≤ 127 := h.1
  refine ⟨g, ⟨⟨by omega, by omega⟩, h.2.1, fun k hk => ?_⟩, hw, hg⟩
  have hk' : k = 8 * (k / 8) + r.val := by omega
  rcases h.2.2 (k / 8) (show k / 8 ≤ 127 by omega) with l | ⟨e, l⟩
  · exact Or.inl (by rw [hk']; exact l)
  · exact Or.inr ⟨by rw [hk']; exact e, by omega⟩

/-- The column maximum as the largest of the eight positions' values. -/
theorem colMax_apply (x : Vec Ideal S1024x512 .f32) (j : Fin 512) :
    colMax x (ix1 j) = (Finset.univ : Finset (Fin 8)).fold max ⊥ fun r => (scan x 127).1 (ix2 r j) := by
  refine (multiReduction_maximumf_eq_fold (scan x 127).1 _ reduces_S8x512_S512 _ _ (ix1 j)).trans ?_
  refine (Shape.Reduces.fold_fiber_r2_a0 reduces_S8x512_S512 (ix1 j) _ _ _).trans ?_
  rw [← ofBits_negInf]
  rfl

/-- The entry of the rows compared: the position's row where its value is the column maximum, 4096 elsewhere. -/
theorem colRows_apply (x : Vec Ideal S1024x512 .f32) (r : Fin 8) (j : Fin 512) :
    colRows x (ix2 r j) = Scalar.select (Ideal.cmp .oeq ((scan x 127).1 (ix2 r j)) (colMax x (ix1 j)))
      ((scan x 127).2 (ix2 r j) * 8#32 + BitVec.ofNat 32 r.val) 4096#32 := by
  have e : broadcastTo S8x512 (shapeCast S1x512 (colMax x) shapeCasts_S512_S1x512) broadcasts_S1x512_S8x512 (ix2 r j) = colMax x (ix1 j) := by
    rw [broadcastTo_apply _ _ (ix2 r j) (ix2 (0 : Fin 1) j) (fun a => by fin_cases a <;> rfl)]
    exact shapeCast_a_1a_apply (colMax x) shapeCasts_S512_S1x512 0 j
  show Scalar.select (Ideal.cmp .oeq ((scan x 127).1 (ix2 r j)) (broadcastTo S8x512 _ _ (ix2 r j)))
    ((scan x 127).2 (ix2 r j) * 8#32 + iota .tc S8x512 32 [0] iota_S8x512_d0_w32 (ix2 r j)) 4096#32 = _
  rw [e, iota_single_apply]

/-- The row found is the least of the eight rows compared. -/
theorem colRow_apply (x : Vec Ideal S1024x512 .f32) (j : Fin 512) :
    multiReductionI .minsi [0] S512 (colRows x) 2147483647#32 reduces_S8x512_S512 rfl (ix1 j)
      = (Finset.univ : Finset (Fin 8)).fold IntOp.minsi 2147483647#32 fun r => colRows x (ix2 r j) := by
  refine (multiReductionI_eq_fold .minsi (colRows x) _ reduces_S8x512_S512 _ (ix1 j)).trans ?_
  exact Shape.Reduces.fold_fiber_r2_a0 reduces_S8x512_S512 (ix1 j) _ _ _

/-- A row's word read as a signed number. -/
theorem rowWord_toInt (g r : ℕ) (hg : g ≤ 127) (hr : r < 8) : (BitVec.ofNat 32 g * 8#32 + BitVec.ofNat 32 r).toInt = ((8 * g + r : ℕ) : ℤ) := by
  have e : BitVec.ofNat 32 g * 8#32 + BitVec.ofNat 32 r = BitVec.ofNat 32 (8 * g + r) := by
    rw [BitVec.ofNat_add, BitVec.ofNat_mul, BitVec.mul_comm]
  rw [e, BitVec.toInt_ofNat']
  exact Int.bmod_eq_of_le (by omega) (by omega)

/-- **One block**: the pair of the column maximum and the row found is the best of the block's 1024 rows. -/
theorem block_best (x : Vec Ideal S1024x512 .f32) (j : Fin 512) :
    ∃ i, IsBest (column x j) (· < 1024) (colMax x (ix1 j)) i
      ∧ multiReductionI .minsi [0] S512 (colRows x) 2147483647#32 reduces_S8x512_S512 rfl (ix1 j) = BitVec.ofNat 32 i := by
  choose g hb hw hg using fun r => scan_rows x r j
  have hle : ∀ r : Fin 8, (scan x 127).1 (ix2 r j) ≤ colMax x (ix1 j) := fun r => by
    rw [colMax_apply]
    exact (Finset.le_fold_max _).mpr (Or.inr ⟨r, Finset.mem_univ r, le_refl _⟩)
  have hex : ∃ r : Fin 8, (scan x 127).1 (ix2 r j) = colMax x (ix1 j) := by
    obtain ⟨r, -, hr⟩ := Finset.exists_max_image (Finset.univ : Finset (Fin 8)) (fun r => (scan x 127).1 (ix2 r j)) ⟨0, Finset.mem_univ _⟩
    exact ⟨r, by rw [colMax_apply]; exact (fold_max_eq _ _ _ hr ⟨r, Finset.mem_univ r, rfl⟩).symm⟩
  have hsel : ∀ r : Fin 8, (scan x 127).1 (ix2 r j) = colMax x (ix1 j) →
      colRows x (ix2 r j) = BitVec.ofNat 32 (g r) * 8#32 + BitVec.ofNat 32 r.val := fun r e => by
    rw [colRows_apply, ← hw r, show Ideal.cmp .oeq ((scan x 127).1 (ix2 r j)) (colMax x (ix1 j)) = 1#1 from
      congrArg BitVec.ofBool (decide_eq_true e)]
    rfl
  have hnot : ∀ r : Fin 8, (scan x 127).1 (ix2 r j) ≠ colMax x (ix1 j) → colRows x (ix2 r j) = 4096#32 := fun r e => by
    rw [colRows_apply, show Ideal.cmp .oeq ((scan x 127).1 (ix2 r j)) (colMax x (ix1 j)) = 0#1 from
      congrArg BitVec.ofBool (decide_eq_false e)]
    rfl
  obtain ⟨r₀, e₀⟩ := hex
  obtain ⟨m1, -, m3⟩ := fold_minsi (Finset.univ : Finset (Fin 8)) 2147483647#32 fun r => colRows x (ix2 r j)
  rw [← colRow_apply] at m1 m3
  generalize multiReductionI .minsi [0] S512 (colRows x) 2147483647#32 reduces_S8x512_S512 rfl (ix1 j) = w at m1 m3 ⊢
  have b₀ : w.toInt ≤ 1023 := by
    have := m1 r₀ (Finset.mem_univ _)
    rw [hsel r₀ e₀, rowWord_toInt _ _ (hg r₀) r₀.isLt] at this
    have := hg r₀
    have := r₀.isLt
    omega
  obtain ⟨r₁, e₁, hw₁⟩ : ∃ r : Fin 8, (scan x 127).1 (ix2 r j) = colMax x (ix1 j) ∧ w = colRows x (ix2 r j) := by
    rcases m3 with m3 | ⟨r, -, m3⟩
    · rw [m3] at b₀
      exact absurd b₀ (by decide)
    · by_cases e : (scan x 127).1 (ix2 r j) = colMax x (ix1 j)
      · exact ⟨r, e, m3⟩
      · rw [m3, hnot r e] at b₀
        exact absurd b₀ (by decide)
  rw [hsel r₁ e₁] at hw₁
  have hr₁ := r₁.isLt
  have hg₁ := hg r₁
  refine ⟨8 * g r₁ + r₁.val, ⟨by omega, by rw [← e₁]; exact (hb r₁).2.1, fun k hk => ?_⟩, ?_⟩
  · let r : Fin 8 := ⟨k % 8, Nat.mod_lt _ (by decide)⟩
    rcases (hb r).2.2 k ⟨hk, rfl⟩ with l | ⟨e, l⟩
    · exact Or.inl (lt_of_lt_of_le l (hle r))
    · rcases lt_or_eq_of_le (hle r) with l' | e'
      · exact Or.inl (e ▸ l')
      · refine Or.inr ⟨e.trans e', le_trans ?_ l⟩
        have := m1 r (Finset.mem_univ _)
        rw [hsel r e', hw₁, rowWord_toInt _ _ hg₁ hr₁, rowWord_toInt _ _ (hg r) r.isLt] at this
        exact_mod_cast this
  · rw [hw₁, BitVec.ofNat_add, BitVec.ofNat_mul, BitVec.mul_comm]

end Cert.Argmax

end
-- ==== Proof.Combine.lean ====
/-
# The four devices' pairs combined

Over the extended reals: a device's pair is the best of its rows of the whole array, the better of two pairs is the best of both sets of
rows, so every device ends with the best of all 4096 rows.
-/
module

public import proofs.«01_k».proof.Proof.Local
public import proofs.«01_k».proof.ReferenceIdeal

@[expose] public section

noncomputable section

namespace Cert.Argmax

open Cert.KernelIdeal Cert.KernelIdeal.Gen
open Idealize.ShloMosaic hiding ix1 ix2 ix3 eq_ix1 eq_ix2 eq_ix3
open Idealize.ShloMosaic.ValueIdx

/-- The whole array. -/
abbrev Whole : Type := Vec Ideal Cert.ReferenceIdeal.S4096x512 .f32

/-- The values of column `j` of the whole array, by row. -/
def colAll (X : Whole) (j : Fin 512) (k : ℕ) : EReal := X (ix2 ⟨k % 4096, Nat.mod_lt _ (by decide)⟩ j)

/-- Over the rows in `P`, the pair is the largest value and, as a number, the least row attaining it. -/
def Best (f : ℕ → EReal) (P : ℕ → Prop) (v k : EReal) : Prop := ∃ i : ℕ, k = ((i : ℝ) : EReal) ∧ IsBest f P v i

/-- The device's number as the program computes it is its number. -/
theorem devWord_eq : ∀ c : Dev nD, devWord c = BitVec.ofNat 32 c.val := by decide

/-- A row's word within the block plus the block's first row, read as a signed number. -/
theorem rowAt_toInt (i c : ℕ) (hi : i < 1024) (hc : c < 4) :
    (BitVec.ofNat 32 i + BitVec.ofNat 32 c * 1024#32).toInt = ((1024 * c + i : ℕ) : ℤ) := by
  have e : BitVec.ofNat 32 i + BitVec.ofNat 32 c * 1024#32 = BitVec.ofNat 32 (1024 * c + i) := by
    rw [BitVec.ofNat_add, BitVec.ofNat_mul, BitVec.mul_comm, BitVec.add_comm]
  rw [e, BitVec.toInt_ofNat']
  exact Int.bmod_eq_of_le (by omega) (by omega)

/-- The rows of device `c`. -/
def rowsOf (c : Dev nD) (k : ℕ) : Prop := 1024 * c.val ≤ k ∧ k < 1024 * c.val + 1024

/-- **A device's pair** is the best of its rows of the whole array. -/
theorem pair_best (X : Whole) (xs : Dev nD → Vec Ideal S1024x512 .f32)
    (hx : ∀ (c : Dev nD) (i : Fin 1024) (j : Fin 512), xs c (ix2 i j) = colAll X j (1024 * c.val + i.val)) (c : Dev nD) (j : Fin 512) :
    Best (colAll X j) (rowsOf c) ((pairOf xs c).1 (ix1 j)) ((pairOf xs c).2 (ix1 j)) := by
  obtain ⟨i, hb, hw⟩ := block_best (xs c) j
  have hi : i < 1024 := hb.1
  have hc : c.val < 4 := c.isLt
  have hcol : ∀ k, k < 1024 → column (xs c) j k = colAll X j (1024 * c.val + k) := fun k hk => by
    unfold column
    rw [hx]
    exact congrArg (fun n => colAll X j (1024 * c.val + n)) (Nat.mod_eq_of_lt hk)
  refine ⟨1024 * c.val + i, ?_, ⟨by omega, by omega⟩, ?_, fun k hk => ?_⟩
  · show (((multiReductionI .minsi [0] S512 (colRows (xs c)) 2147483647#32 reduces_S8x512_S512 rfl (ix1 j) + devWord c * 1024#32).toInt : ℝ) : EReal) = _
    rw [hw, devWord_eq, rowAt_toInt i c.val hi hc, Int.cast_natCast]
  · rw [← hcol i hi]
    exact hb.2.1
  · have hk' : k = 1024 * c.val + (k - 1024 * c.val) := by have := hk.1; omega
    have hlt : k - 1024 * c.val < 1024 := by have := hk.2; omega
    have := hb.2.2 (k - 1024 * c.val) hlt
    rw [hcol _ hlt, ← hk'] at this
    exact this.imp id fun e => ⟨e.1, by omega⟩

/-- **The better of two pairs** is the best of both sets of rows. -/
theorem better_best {f : ℕ → EReal} {P Q : ℕ → Prop} (p q : FVec Ideal S512 .f32 × FVec Ideal S512 .f32) (j : S512.Idx)
    (hp : Best f P (p.1 j) (p.2 j)) (hq : Best f Q (q.1 j) (q.2 j)) :
    Best f (fun k => P k ∨ Q k) ((better p q).1 j) ((better p q).2 j) := by
  obtain ⟨i, hi, hp⟩ := hp
  obtain ⟨k, hk, hq⟩ := hq
  have hlt : p.2 j < q.2 j ↔ i < k := by
    rw [hi, hk]
    exact EReal.coe_lt_coe_iff.trans Nat.cast_lt
  have hw : wins p.1 p.2 q.1 q.2 j = BitVec.ofBool (decide (q.1 j < p.1 j) || (decide (p.1 j = q.1 j) && decide (p.2 j < q.2 j))) := by
    show BitVec.ofBool (decide (q.1 j < p.1 j)) ||| (BitVec.ofBool (decide (p.1 j = q.1 j)) &&& BitVec.ofBool (decide (p.2 j < q.2 j))) = _
    cases decide (q.1 j < p.1 j) <;> cases decide (p.1 j = q.1 j) <;> cases decide (p.2 j < q.2 j) <;> rfl
  show Best f _ (Scalar.select (wins p.1 p.2 q.1 q.2 j) (p.1 j) (q.1 j)) (Scalar.select (wins p.1 p.2 q.1 q.2 j) (p.2 j) (q.2 j))
  by_cases c : q.1 j < p.1 j ∨ (p.1 j = q.1 j ∧ i < k)
  · have : wins p.1 p.2 q.1 q.2 j = 1#1 := by
      rw [hw, show (decide (q.1 j < p.1 j) || (decide (p.1 j = q.1 j) && decide (p.2 j < q.2 j))) = true by
        simpa [hlt] using c]
      rfl
    rw [this]
    exact ⟨i, hi, hp.union_left hq c⟩
  · have : wins p.1 p.2 q.1 q.2 j = 0#1 := by
      rw [hw, show (decide (q.1 j < p.1 j) || (decide (p.1 j = q.1 j) && decide (p.2 j < q.2 j))) = false by
        rw [← Bool.not_eq_true]
        simpa [hlt] using c]
      rfl
    rw [this]
    exact ⟨k, hk, hp.union_right hq c⟩

/-- Every row is one of the four devices'. -/
theorem rows_all (c : Dev nD) (k : ℕ) :
    (rowsOf (up 2 c) k ∨ rowsOf (up 1 c) k ∨ rowsOf (up 3 c) k ∨ rowsOf c k) ↔ k < 4096 := by
  have hc : c.val < 4 := c.isLt
  show ((1024 * ((c.val + 2) % 4) ≤ k ∧ k < 1024 * ((c.val + 2) % 4) + 1024) ∨ (1024 * ((c.val + 1) % 4) ≤ k ∧ k < 1024 * ((c.val + 1) % 4) + 1024)
    ∨ (1024 * ((c.val + 3) % 4) ≤ k ∧ k < 1024 * ((c.val + 3) % 4) + 1024) ∨ (1024 * c.val ≤ k ∧ k < 1024 * c.val + 1024)) ↔ k < 4096
  obtain h | h | h | h : c.val = 0 ∨ c.val = 1 ∨ c.val = 2 ∨ c.val = 3 := by omega
  all_goals rw [h]; omega

/-- **Every device's final pair** is the best of all the rows. -/
theorem final_best (X : Whole) (xs : Dev nD → Vec Ideal S1024x512 .f32)
    (hx : ∀ (c : Dev nD) (i : Fin 1024) (j : Fin 512), xs c (ix2 i j) = colAll X j (1024 * c.val + i.val)) (c : Dev nD) (j : Fin 512) :
    Best (colAll X j) (· < 4096) ((final xs c).1 (ix1 j)) ((final xs c).2 (ix1 j)) := by
  obtain ⟨i, hi, hb⟩ := better_best _ _ (ix1 j) (pair_best X xs hx (up 2 c) j)
    (better_best _ _ (ix1 j) (pair_best X xs hx (up 1 c) j) (better_best _ _ (ix1 j) (pair_best X xs hx (up 3 c) j) (pair_best X xs hx c j)))
  exact ⟨i, hi, hb.congr (rows_all c)⟩

end Cert.Argmax

end
-- ==== Proof.RefRun.lean ====
/-
# The reference's run

The reference is a straight line of array operations: the column arg-max of the whole array, made a float; the column maximum; the two
laid one above the other. This file states its run, over any float values: the result is `refOut` of the argument, which is unchanged.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Argmax.Ref

open Cert.ReferenceIdeal Cert.ReferenceIdeal.Gen
open Idealize.ShloMosaic Idealize.ShloMosaic.TcCoe Idealize.ShloMosaic.StableHlo Idealize.SL.Sem

variable {F : FTy → Type} [FloatOps F]

/-- The column arg-max of the whole array. -/
def refIdx (x : FVec F S4096x512 .f32) : IVec S512 32 := fun j =>
  (Host.argReduce reducer_argmax_f32_i32 x (iotaInDim S4096x512 32 0) (constant S_ .f32 0xFF800000#32) (constantI S_ 32 0#32)
    reducesTo_S4096x512_S512_d0 h_S_ j).2

/-- The column maximum of the whole array. -/
def refMax (x : FVec F S4096x512 .f32) : FVec F S512 .f32 :=
  Host.reduce FloatOps.maximumf x (constant S_ .f32 0xFF800000#32) reducesTo_S4096x512_S512_d0 h_S_

/-- One row above another. -/
def stack (a b : FVec F S1x512 .f32) : FVec F S2x512 .f32 :=
  concatenate S2x512 0 [⟨S1x512, a⟩, ⟨S1x512, b⟩] concatenates_S1x512_S1x512_S2x512_d0

/-- The reference's result: the maxima above the row numbers. -/
def refOut (x : FVec F S4096x512 .f32) : FVec F S2x512 .f32 :=
  stack (broadcastInDim S1x512 ![1] bcast_S512_S1x512_1 (refMax x)) (broadcastInDim S1x512 ![1] bcast_S512_S1x512_1 (sitofp .f32 (refIdx x)))

/-- The eleven operations, in order. -/
abbrev ops : List (HloOp τ sig (Elt F)) :=
  [ TRef.nullary main_call0.v0 (iotaInDim S4096x512 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S4096x512_S512_d0 h_S_ j).1),
    TRef.quaternary (.of main_arg0) main_call0.v0 main_call0.cst main_call0.c main_call0.v1_1
      (fun x y u v j => (Host.argReduce reducer_argmax_f32_i32 x y u v reducesTo_S4096x512_S512_d0 h_S_ j).2),
    unary main_v0 main_v1 (sitofp .f32 : (⟨S512, .i32⟩ : BufTy).Contents (Elt F) → (⟨S512, .f32⟩ : BufTy).Contents (Elt F)),
    nullary main_cst (constant S_ .f32 0xFF800000#32),
    binary main_arg0 main_cst main_v2 (fun x v => Host.reduce FloatOps.maximumf x v reducesTo_S4096x512_S512_d0 h_S_),
    unary main_v2 main_v3 (broadcastInDim S1x512 ![1] bcast_S512_S1x512_1),
    unary main_v1 main_v4 (broadcastInDim S1x512 ![1] bcast_S512_S1x512_1),
    binary main_v3 main_v4 main_v5 stack ]

set_option maxRecDepth 8000 in
theorem main_eq (c : Dev nD) : main (F := F) c = seq ops := by
  simp only [main, fn_argmax.body, seq, bind_assoc, pure_bind]
  rfl

set_option maxRecDepth 8000 in
/-- What the operations leave in the result. -/
theorem out_eq (V : Valuation τ sig (Elt F)) : after ops V (main_v5 : DevRef τ sig) = refOut (V (main_arg0 : DevRef τ sig)) := by
  after_results_simp
  rfl

/-- The argument is left as it was. -/
theorem arg_eq (V : Valuation τ sig (Elt F)) : after ops V (main_arg0 : DevRef τ sig) = V (main_arg0 : DevRef τ sig) := by
  simp only [after_cons, after_nil]
  rfl

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., binary_bufs_sub ..⟩

/-- Every buffer ends at what the operations leave in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq no_scoped_refs no_scoped_sems defs main (fun _ => ops) main_eq (fun _ => ops_sub) m ρ

/-- The reference runs, ends with every counter at zero and its argument unchanged. -/
theorem frame : Cert.quiescent_ReferenceIdeal := fun m ρ _ =>
  (θ_run Cert.ReferenceIdeal.defs _ _).mono
    (fun r h => ⟨fun c => (h c main_arg0).trans (arg_eq _), Idealize.ShloMosaic.sem_eq_zero_of_no_sems (by decide) r.2⟩)
    (run_main (F := Ideal) m ρ)

end Cert.Argmax.Ref

end
-- ==== Proof.RefValue.lean ====
/-
# The reference's values, and the equation

Over the extended reals the reference's column maximum and arg-max are the best of all 4096 rows too; the best being unique, the array it
returns is the one every device returns.
-/
module

public import proofs.«01_k».proof.Proof.Combine
public import proofs.«01_k».proof.Proof.RefRun

@[expose] public section

noncomputable section

namespace Cert.Argmax

open Cert.KernelIdeal Cert.KernelIdeal.Gen
open Idealize.ShloMosaic hiding ix1 ix2 ix3 eq_ix1 eq_ix2 eq_ix3
open Idealize.ShloMosaic.ValueIdx
open Cert.ReferenceIdeal.Gen (reducesTo_S4096x512_S512_d0 h_S_ bcast_S512_S1x512_1 concatenates_S1x512_S1x512_S2x512_d0)

/-- A pair of a value and a row's word no worse than another: a larger value, or the same at no larger a row. -/
def NoWorse (a b : Ideal .f32 × BitVec 32) : Prop := b.1 < a.1 ∨ (b.1 = a.1 ∧ a.2.toInt ≤ b.2.toInt)

/-- What the reference does with two pairs: it keeps one that is no worse than either. -/
theorem reducer_keeps (a b : Ideal .f32 × BitVec 32) :
    (Cert.ReferenceIdeal.reducer_argmax_f32_i32 (F := Ideal) a b = a ∨ Cert.ReferenceIdeal.reducer_argmax_f32_i32 (F := Ideal) a b = b)
      ∧ NoWorse (Cert.ReferenceIdeal.reducer_argmax_f32_i32 (F := Ideal) a b) a
      ∧ NoWorse (Cert.ReferenceIdeal.reducer_argmax_f32_i32 (F := Ideal) a b) b := by
  obtain ⟨a1, a2⟩ := a
  obtain ⟨b1, b2⟩ := b
  have e : Cert.ReferenceIdeal.reducer_argmax_f32_i32 (F := Ideal) (a1, a2) (b1, b2)
      = (Scalar.select (BitVec.ofBool (decide (b1 < a1)) ||| BitVec.ofBool (decide (a1 ≠ a1))) a1 b1,
        Scalar.select ((BitVec.ofBool (decide (b1 < a1)) ||| BitVec.ofBool (decide (a1 ≠ a1)))
          ||| (BitVec.ofBool (decide (a1 = b1)) &&& BitVec.ofBool (decide (a2.toInt < b2.toInt)))) a2 b2) := rfl
  rw [e, decide_eq_false (fun h : a1 ≠ a1 => h rfl)]
  rcases lt_trichotomy b1 a1 with h | h | h
  · rw [decide_eq_true h, decide_eq_false (ne_of_gt h)]
    have : (Scalar.select (BitVec.ofBool true ||| BitVec.ofBool false) a1 b1,
        Scalar.select ((BitVec.ofBool true ||| BitVec.ofBool false) ||| (BitVec.ofBool false &&& BitVec.ofBool (decide (a2.toInt < b2.toInt)))) a2 b2)
        = (a1, a2) := by cases decide (a2.toInt < b2.toInt) <;> rfl
    rw [this]
    exact ⟨Or.inl rfl, Or.inr ⟨rfl, le_refl _⟩, Or.inl h⟩
  · subst h
    rw [decide_eq_false (lt_irrefl b1), decide_eq_true (rfl : b1 = b1)]
    by_cases l : a2.toInt < b2.toInt
    · rw [decide_eq_true l]
      exact ⟨Or.inl rfl, Or.inr ⟨rfl, le_refl _⟩, Or.inr ⟨rfl, l.le⟩⟩
    · rw [decide_eq_false l]
      exact ⟨Or.inr rfl, Or.inr ⟨rfl, not_lt.mp l⟩, Or.inr ⟨rfl, le_refl _⟩⟩
  · rw [decide_eq_false (not_lt_of_gt h), decide_eq_false (ne_of_lt h)]
    have : (Scalar.select (BitVec.ofBool false ||| BitVec.ofBool false) a1 b1,
        Scalar.select ((BitVec.ofBool false ||| BitVec.ofBool false) ||| (BitVec.ofBool false &&& BitVec.ofBool (decide (a2.toInt < b2.toInt)))) a2 b2)
        = (b1, b2) := by cases decide (a2.toInt < b2.toInt) <;> rfl
    rw [this]
    exact ⟨Or.inr rfl, Or.inl h, Or.inr ⟨rfl, le_refl _⟩⟩

theorem NoWorse.trans {a b c : Ideal .f32 × BitVec 32} (h : NoWorse a b) (h' : NoWorse b c) : NoWorse a c := by
  rcases h with h | ⟨e, h⟩ <;> rcases h' with h' | ⟨e', h'⟩
  · exact Or.inl (h'.trans h)
  · exact Or.inl (e' ▸ h)
  · exact Or.inl (e ▸ h')
  · exact Or.inr ⟨e'.trans e, h.trans h'⟩

/-- The pairs the reference compares in column `j`: each row's value with its word. -/
theorem mem_pairs (X : Whole) (j : Fin 512) (p : Ideal .f32 × BitVec 32) :
    p ∈ Host.argReduceFiber X (iotaInDim Cert.ReferenceIdeal.S4096x512 32 0) reducesTo_S4096x512_S512_d0 (ix1 j)
      ↔ ∃ k : ℕ, k < 4096 ∧ p = (colAll X j k, BitVec.ofNat 32 k) := by
  unfold Host.argReduceFiber
  rw [List.mem_map]
  constructor
  · rintro ⟨n, hn, rfl⟩
    obtain ⟨k, hk⟩ := (Shape.ReducesTo.fiber_r2_a0 reducesTo_S4096x512_S512_d0 (ix1 j) _).mp (of_decide_eq_true (List.mem_filter.mp hn).2)
    refine ⟨k.val, k.isLt, ?_⟩
    rw [← hk]
    refine Prod.ext ?_ rfl
    show X (ix2 k j) = colAll X j k.val
    unfold colAll
    exact congrArg (fun r => X (ix2 r j)) (Fin.ext (Nat.mod_eq_of_lt k.isLt).symm)
  · rintro ⟨k, hk, rfl⟩
    refine ⟨Cert.ReferenceIdeal.S4096x512.rowMajor (ix2 ⟨k, hk⟩ j), List.mem_filter.mpr ⟨List.mem_finRange _, decide_eq_true ?_⟩, ?_⟩
    · rw [Equiv.symm_apply_apply]
      exact (Shape.ReducesTo.fiber_r2_a0 reducesTo_S4096x512_S512_d0 (ix1 j) _).mpr ⟨⟨k, hk⟩, rfl⟩
    · rw [Equiv.symm_apply_apply]
      refine Prod.ext ?_ rfl
      show X (ix2 ⟨k, hk⟩ j) = colAll X j k
      unfold colAll
      exact congrArg (fun r => X (ix2 r j)) (Fin.ext (Nat.mod_eq_of_lt hk).symm)

/-- A row's word read as a signed number. -/
theorem rowWord_int (k : ℕ) (hk : k < 4096) : (BitVec.ofNat 32 k).toInt = (k : ℤ) := by
  rw [BitVec.toInt_ofNat']
  exact Int.bmod_eq_of_le (by omega) (by omega)

/-- The pair the reference starts from. -/
theorem firstPair : ((constant Cert.ReferenceIdeal.S_ .f32 0xFF800000#32 : FVec Ideal _ .f32) (Shape.Idx.first h_S_),
    (constantI Cert.ReferenceIdeal.S_ 32 0#32) (Shape.Idx.first h_S_)) = (((⊥ : EReal), 0#32) : Ideal .f32 × BitVec 32) := Prod.ext ofBits_negInf rfl

/-- The reference's arg-max as a fold over those pairs. -/
theorem refIdx_fold (X : Whole) (j : Fin 512) : ∃ l : List (Ideal .f32 × BitVec 32),
    (∀ p, p ∈ l ↔ ∃ k : ℕ, k < 4096 ∧ p = (colAll X j k, BitVec.ofNat 32 k))
      ∧ Ref.refIdx (F := Ideal) X (ix1 j) = (l.foldl (Cert.ReferenceIdeal.reducer_argmax_f32_i32 (F := Ideal)) ((⊥ : EReal), 0#32)).2 := by
  have e : Ref.refIdx (F := Ideal) X = fun i => (Host.argReduce (Cert.ReferenceIdeal.reducer_argmax_f32_i32 (F := Ideal)) X (iotaInDim Cert.ReferenceIdeal.S4096x512 32 0)
    (constant Cert.ReferenceIdeal.S_ .f32 0xFF800000#32) (constantI Cert.ReferenceIdeal.S_ 32 0#32) reducesTo_S4096x512_S512_d0 h_S_ i).2 := rfl
  have h := (congrFun (Ideal.argReduce_eq_reduce2 (Cert.ReferenceIdeal.reducer_argmax_f32_i32 (F := Ideal)) X (iotaInDim Cert.ReferenceIdeal.S4096x512 32 0)
    (constant Cert.ReferenceIdeal.S_ .f32 0xFF800000#32) (constantI Cert.ReferenceIdeal.S_ 32 0#32) reducesTo_S4096x512_S512_d0 h_S_) (ix1 j)).trans
    (Host.reduce2_eq_foldl_fiber (Cert.ReferenceIdeal.reducer_argmax_f32_i32 (F := Ideal)) X (iotaInDim Cert.ReferenceIdeal.S4096x512 32 0)
    (constant Cert.ReferenceIdeal.S_ .f32 0xFF800000#32) (constantI Cert.ReferenceIdeal.S_ 32 0#32) reducesTo_S4096x512_S512_d0 h_S_ (ix1 j))
  rw [firstPair] at h
  exact ⟨_, mem_pairs X j, (congrFun e (ix1 j)).trans (congrArg Prod.snd h)⟩

/-- **The reference's arg-max** is the best of all the rows. -/
theorem refIdx_best (X : Whole) (j : Fin 512) :
    ∃ v i, IsBest (colAll X j) (· < 4096) v i ∧ Ref.refIdx (F := Ideal) X (ix1 j) = BitVec.ofNat 32 i := by
  obtain ⟨l, hl, e⟩ := refIdx_fold X j
  have h := foldl_better NoWorse (fun a => Or.inr ⟨rfl, le_refl _⟩) (fun _ _ _ => NoWorse.trans) _ reducer_keeps l ((⊥ : EReal), 0#32)
  rw [e]
  generalize l.foldl (Cert.ReferenceIdeal.reducer_argmax_f32_i32 (F := Ideal)) ((⊥ : EReal), 0#32) = p at h ⊢
  obtain ⟨hin, -, hall⟩ := h
  have hall' : ∀ k, k < 4096 → NoWorse p (colAll X j k, BitVec.ofNat 32 k) := fun k hk => hall _ ((hl _).mpr ⟨k, hk, rfl⟩)
  obtain ⟨i, hi, rfl⟩ : ∃ i, i < 4096 ∧ p = (colAll X j i, BitVec.ofNat 32 i) := by
    rcases hin with rfl | hin
    · refine ⟨0, by decide, Prod.ext ?_ rfl⟩
      rcases hall' 0 (by decide) with l | ⟨l, -⟩
      · exact absurd l not_lt_bot
      · exact l.symm
    · exact (hl p).mp hin
  refine ⟨colAll X j i, i, ⟨hi, rfl, fun k hk => (hall' k hk).imp id fun l => ⟨l.1, ?_⟩⟩, rfl⟩
  have := l.2
  rw [rowWord_int i hi, rowWord_int k hk] at this
  exact_mod_cast this

/-- **The reference's maximum** is the best value. -/
theorem refMax_best (X : Whole) (j : Fin 512) {v : EReal} {i : ℕ} (h : IsBest (colAll X j) (· < 4096) v i) : Ref.refMax (F := Ideal) X (ix1 j) = v := by
  have hcol : ∀ k : Fin 4096, X (ix2 k j) = colAll X j k.val := fun k => by
    unfold colAll
    exact congrArg (fun r => X (ix2 r j)) (Fin.ext (Nat.mod_eq_of_lt k.isLt).symm)
  have e : Ref.refMax (F := Ideal) X (ix1 j) = (Finset.univ : Finset (Fin 4096)).fold max ⊥ fun k => X (ix2 k j) := by
    refine (Host.reduce_eq_fold (FloatOps.maximumf (F := Ideal) (φ := .f32)) X _ reducesTo_S4096x512_S512_d0 h_S_ (ix1 j)).trans ?_
    refine (Shape.ReducesTo.fold_fiber_r2_a0 reducesTo_S4096x512_S512_d0 (ix1 j) _ _ _).trans ?_
    rw [← ofBits_negInf]
    rfl
  rw [e]
  exact fold_max_eq _ _ _ (fun k _ => by rw [hcol]; exact h.le k.isLt) ⟨⟨i, h.1⟩, Finset.mem_univ _, by rw [hcol]; exact h.2.1⟩

/-- A vector laid as a row. -/
theorem row_apply (x : FVec Ideal S512 .f32) (u : Fin 1) (j : Fin 512) : broadcastInDim S1x512 ![1] bcast_S512_S1x512_1 x (ix2 u j) = x (ix1 j) :=
  broadcastInDim_apply _ _ x _ (ix1 j) fun a => by fin_cases a; rfl

/-- The upper row of two. -/
theorem stack_top (a b : FVec Ideal S1x512 .f32) (j : Fin 512) : Ref.stack a b (ix2 (0 : Fin 2) j) = a (ix2 (0 : Fin 1) j) :=
  concatenate_pair_apply_left 0 a b concatenates_S1x512_S1x512_S2x512_d0 _ rfl _ fun d => by fin_cases d <;> rfl

/-- The lower row of two. -/
theorem stack_bottom (a b : FVec Ideal S1x512 .f32) (j : Fin 512) : Ref.stack a b (ix2 (1 : Fin 2) j) = b (ix2 (0 : Fin 1) j) :=
  concatenate_pair_apply_right 0 a b concatenates_S1x512_S1x512_S2x512_d0 _ rfl rfl _ (fun d hd => by
    fin_cases d
    · exact absurd rfl hd
    · rfl) rfl

/-- The upper row of a result. -/
theorem outRows_top (p : FVec Ideal S512 .f32 × FVec Ideal S512 .f32) (j : Fin 512) : outRows p (ix2 (0 : Fin 2) j) = p.1 (ix1 j) := rfl

/-- The lower row of a result. -/
theorem outRows_bottom (p : FVec Ideal S512 .f32 × FVec Ideal S512 .f32) (j : Fin 512) : outRows p (ix2 (1 : Fin 2) j) = p.2 (ix1 j) := rfl

/-- A row's word as a number. -/
theorem ofRow (k : ℕ) (hk : k < 4096) : FloatOps.sitofp (F := Ideal) .f32 (BitVec.ofNat 32 k) = ((k : ℝ) : EReal) := by
  show (((BitVec.ofNat 32 k).toInt : ℝ) : EReal) = _
  rw [rowWord_int k hk, Int.cast_natCast]

/-- **The equation**: the array a device returns, of the four blocks of an array, is the reference's of that array. -/
theorem outRows_eq (X : Whole) (xs : Dev nD → Vec Ideal S1024x512 .f32)
    (hx : ∀ (c : Dev nD) (i : Fin 1024) (j : Fin 512), xs c (ix2 i j) = colAll X j (1024 * c.val + i.val)) (c : Dev nD) :
    outRows (final xs c) = Ref.refOut (F := Ideal) X := by
  funext a
  obtain ⟨r, j, rfl⟩ : ∃ (r : Fin 2) (j : Fin 512), a = ix2 r j := ⟨a 0, a 1, eq_ix2 a⟩
  obtain ⟨i, hi, hb⟩ := final_best X xs hx c j
  generalize final xs c = p at hi hb ⊢
  obtain ⟨w, k, hb', hk⟩ := refIdx_best X j
  obtain ⟨rfl, rfl⟩ := hb.unique hb'
  unfold Ref.refOut
  obtain rfl | rfl : r = 0 ∨ r = 1 := (by decide : ∀ r : Fin 2, r = 0 ∨ r = 1) r
  · rw [stack_top, row_apply, refMax_best X j hb', outRows_top]
  · rw [stack_bottom, row_apply, outRows_bottom, sitofp_apply, hk, ofRow _ hb.1]
    exact hi

end Cert.Argmax

end
-- ==== Proof.Claims.lean ====
/-
# The claims about the kernel

What the run leaves in the argument and result arrays, each a whole array: the argument as it was, the result what the kernel writes. Of the
four blocks of an array that result is the reference's of the array.
-/
module

public import proofs.«01_k».proof.Proof.Launch
public import proofs.«01_k».proof.Proof.RefValue
public import proofs.«01_k».proof.Defs
public import proofs.«01_k».proof.Proof.Gen.Kernel
public import Idealize.ShloMosaic.Lib.Pipeline.ValueKit

@[expose] public section

noncomputable section

namespace Cert.Argmax

open Cert.KernelIdeal Cert.KernelIdeal.Gen
open Idealize.ShloMosaic hiding ix1 ix2 ix3 eq_ix1 eq_ix2 eq_ix3
open Idealize.ShloMosaic.TcCoe Idealize.ShloMosaic.ValueIdx
open Idealize.SL.Sem

variable {F : FTy → Type} [FloatOps F]
variable (m : (ℓ : Loc nD τ sig) → Buf (Elt F) ℓ) (ρ : Dev nD → PrngReg)

/-- A device's staged block is its whole argument. -/
theorem blockOf_eq (c : Dev nD) : blockOf m ρ c = m ((c : Thread nD τ).loc main_arg0) := by
  funext j
  unfold blockOf
  blk_simp
  refine congrArg (m ((c : Thread nD τ).loc main_arg0)) (Shape.idx_ext₂ ?_ ?_)
  · blk_simp
    simp only [Nat.add_eq_right]
    rfl
  · blk_simp
    simp only [Nat.add_eq_right]
    rfl

/-- The result array ends at what the kernel writes. -/
theorem finalA_out (c : Dev nD) : finalA m ρ c (1 : Fin 2) = outAt m ρ c := by
  unfold finalA
  refine (dats m ρ 0 c).arrAt_eq_of_after_last (1 : Fin 2) t0_0 (by decide +kernel) _ fun j => ?_
  blk_simp
  rfl

/-- The kernel runs, ends with every counter at zero, its argument unchanged and its result the combined pairs of the blocks. -/
theorem kernel_run : θ_run defs (onTc (τ := τ) (main (F := F))) ⟨m, fun _ => 0, ρ⟩ fun r =>
    (∀ c : Dev nD, r.2.mem ((c.tc : Thread nD τ).loc main_v1) = outRows (final (fun d => m ((d.tc : Thread nD τ).loc main_arg0)) c)
      ∧ r.2.mem ((c.tc : Thread nD τ).loc main_arg0) = m ((c.tc : Thread nD τ).loc main_arg0)) ∧ r.2.sem = fun _ => 0 :=
  (θ_run defs _ _).mono (fun r h => ⟨fun c => ⟨(h.1 c (1 : Fin 2)).trans ((finalA_out m ρ c).trans
    (congrArg (fun x => outRows (final x c)) (funext (blockOf_eq m ρ)))), (h.1 c (0 : Fin 2)).trans (finalA_x m ρ c)⟩, h.2⟩) (run_main m ρ)

/-- An entry of the block of the whole array that device `c` holds. -/
theorem block_apply (X : Whole) (c : Dev nD) (i : Fin 1024) (j : Fin 512)
    (h : Layout.Tiles ⟨2, ![1024, 512]⟩ ⟨2, ![4096, 512]⟩ 0 4) :
    Layout.block ⟨2, ![1024, 512]⟩ ⟨2, ![4096, 512]⟩ 0 4 c X h (ix2 i j) = colAll X j (1024 * c.val + i.val) := by
  have hc : c.val < 4 := c.isLt
  have hi : i.val < 1024 := i.isLt
  obtain ⟨h0, h1⟩ := Layout.idx_rows_val h c (ix2 i j)
  rw [Layout.block_apply]
  unfold colAll
  refine congrArg X (Shape.idx_ext₂ ?_ h1)
  rw [h0]
  show c.val * 1024 + i.val = (1024 * c.val + i.val) % 4096
  omega

/-- The reference runs, its argument unchanged and its result the reference's value. -/
theorem reference_run (m' : (ℓ : Loc Cert.ReferenceIdeal.nD Cert.ReferenceIdeal.τ Cert.ReferenceIdeal.sig) → Buf (Elt Ideal) ℓ)
    (g' : Dev Cert.ReferenceIdeal.nD → PrngReg) (c : Dev Cert.ReferenceIdeal.nD) :
    θ_run (Cert.ReferenceIdeal.defs (F := Ideal)) (onTc (τ := Cert.ReferenceIdeal.τ) (Cert.ReferenceIdeal.main (F := Ideal))) ⟨m', fun _ => 0, g'⟩ fun r =>
      r.2.mem ((c.tc : Thread Cert.ReferenceIdeal.nD Cert.ReferenceIdeal.τ).loc Cert.ReferenceIdeal.main_v5)
          = Ref.refOut (F := Ideal) (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0) := by
  refine (θ_run Cert.ReferenceIdeal.defs _ _).mono (fun r h => ⟨?_, ?_⟩) (Ref.run_main (F := Ideal) m' g')
  · exact (h c Cert.ReferenceIdeal.main_v5).trans (Ref.out_eq _)
  · exact (h c Cert.ReferenceIdeal.main_arg0).trans (Ref.arg_eq _)

/-- The kernel and the reference return the same array. -/
theorem algebraic : Cert.algebraic_KernelIdeal_ReferenceIdeal := by
  intro m g m' g' _ hm
  refine ⟨_, ?_, reference_run m' g' 0⟩
  refine (θ_run Cert.KernelIdeal.defs _ _).mono (fun r h c => ⟨(h.1 c).1.trans (outRows_eq _ _ (fun d i j => ?_) c), (h.1 c).2⟩) (kernel_run (F := Ideal) m g)
  rw [hm d]
  exact block_apply _ d i j _

/-- The kernel runs, ends with every counter at zero and its argument unchanged. -/
theorem kernel_frame : θ_run defs (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun r h => ⟨fun c => (h.1 c).2, h.2⟩) (kernel_run m ρ)

/-- The kernel's frame over the extended reals. -/
theorem frame_ideal : Cert.quiescent_KernelIdeal := fun m ρ _ => kernel_frame (F := Ideal) m ρ

/-- The two printed programs have one text, so their body tables are one. -/
theorem tables_eq : Cert.Kernel.defs₀ (F := F) = Cert.KernelIdeal.defs₀ (F := F) :=
  congrArg Defs.onTc (funext fun l => funext fun a => match l, a with
    | 0, (t, s) => rfl
    | ⟨n + 1, h⟩, _ => absurd h (Nat.not_lt.2 (Nat.le_add_left _ _)))

/-- So are the programs' tables. -/
theorem defs_eq : Cert.Kernel.defs (F := F) = Cert.KernelIdeal.defs (F := F) := congrArg (Pipeline.defs Cert.KernelIdeal.pcfgs) tables_eq

/-- The kernel's frame over the machine's words. -/
theorem frame_kernel : Cert.quiescent_Kernel := fun m ρ _ => by
  rw [defs_eq]
  exact kernel_frame (F := Bits) m ρ

end Cert.Argmax

end
-- ==== Proof.lean ====
/-
# The certificate's claim

The five parts of `Cert.Claim`, each proved in a module of its own: the three frames, that the kernel's printed text is its ideal text, and
that kernel and reference return the same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The kernel's and the reference's frames, the kernel's printed text being its ideal text, and the equation of their results. -/
theorem claim : Cert.Claim := ⟨Cert.Kernel.Gen.facts, Cert.KernelIdeal.Gen.facts, Cert.ReferenceIdeal.Gen.facts,
  Cert.Argmax.frame_kernel, Cert.Argmax.frame_ideal, Cert.Argmax.Ref.frame, trivial, Cert.Argmax.algebraic⟩

end Cert.Proof

end
